-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "eps2" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x768 : Shape := ⟨3, ![8, 1024, 768]⟩
abbrev S4096x768 : Shape := ⟨2, ![4096, 768]⟩
abbrev S8x1x4096 : Shape := ⟨3, ![8, 1, 4096]⟩
abbrev S1x1024x768 : Shape := ⟨3, ![1, 1024, 768]⟩
abbrev S1x1x4096 : Shape := ⟨3, ![1, 1, 4096]⟩
abbrev S4096 : Shape := ⟨1, ![4096]⟩
abbrev S4096x1 : Shape := ⟨2, ![4096, 1]⟩
abbrev S1x256x768 : Shape := ⟨3, ![1, 256, 768]⟩
abbrev S256x768 : Shape := ⟨2, ![256, 768]⟩
abbrev S256 : Shape := ⟨1, ![256]⟩
abbrev S256x1 : Shape := ⟨2, ![256, 1]⟩
abbrev S256x4096 : Shape := ⟨2, ![256, 4096]⟩
abbrev S32x8x4096 : Shape := ⟨3, ![32, 8, 4096]⟩
abbrev S1x8x4096 : Shape := ⟨3, ![1, 8, 4096]⟩
abbrev S8x4096 : Shape := ⟨2, ![8, 4096]⟩
abbrev S8x1024 : Shape := ⟨2, ![8, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8x1024x768, .f32⟩
  | .hbm, ⟨1, _⟩ => ⟨S4096x768, .f32⟩
  | .hbm, ⟨2, _⟩ => ⟨S8x1x4096, .f32⟩
  | .hbm, ⟨3, _⟩ => ⟨S8x1x4096, .i32⟩
  | .local _ .vmem, ⟨0, _⟩ => ⟨S1x1024x768, .f32⟩
  | .local _ .vmem, ⟨1, _⟩ => ⟨S1x1024x768, .f32⟩
  | .local _ .vmem, ⟨2, _⟩ => ⟨S4096x768, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .i32⟩
  | .local _ .vmem, ⟨6, _⟩ => ⟨S1x1x4096, .i32⟩
  | .local _ .vmem, ⟨7, _⟩ => ⟨S4096x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "eps2" => some ((5316911940649 / 5316911983139663491615228241121378304 : ℝ) : EReal)
  | _ => none
-- ==== ReferenceIdeal.lean ====
abbrev S8x1024x768 : Shape := ⟨3, ![8, 1024, 768]⟩
abbrev S4096x768 : Shape := ⟨2, ![4096, 768]⟩
abbrev S_ : Shape := ⟨0, ![]⟩
abbrev S8x1024 : Shape := ⟨2, ![8, 1024]⟩
abbrev S8x1024x1 : Shape := ⟨3, ![8, 1024, 1]⟩
abbrev S4096 : Shape := ⟨1, ![4096]⟩
abbrev S4096x1 : Shape := ⟨2, ![4096, 1]⟩
abbrev S768x4096 : Shape := ⟨2, ![768, 4096]⟩
abbrev S8x1024x4096 : Shape := ⟨3, ![8, 1024, 4096]⟩
abbrev S8x4096 : Shape := ⟨2, ![8, 4096]⟩
abbrev S8x1x4096 : Shape := ⟨3, ![8, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S4096x768, .f32⟩
  | .hbm, ⟨2, _⟩ => ⟨S8x1024x768, .f32⟩
  | .hbm, ⟨3, _⟩ => ⟨S_, .f32⟩
  | .hbm, ⟨4, _⟩ => ⟨S8x1024, .f32⟩
  | .hbm, ⟨5, _⟩ => ⟨S8x1024x1, .f32⟩
  | .hbm, ⟨6, _⟩ => ⟨S8x1024x1, .f32⟩
  | .hbm, ⟨7, _⟩ => ⟨S_, .f32⟩
  | .hbm, ⟨8, _⟩ => ⟨S_, .f32⟩
  | .hbm, ⟨9, _⟩ => ⟨S8x1024x1, .f32⟩
  | .hbm, ⟨10, _⟩ => ⟨S8x1024x1, .f32⟩
  | .hbm, ⟨11, _⟩ => ⟨S8x1024x768, .f32⟩
  | .hbm, ⟨12, _⟩ => ⟨S8x1024x768, .f32⟩
  | .hbm, ⟨13, _⟩ => ⟨S4096x768, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x768, .f32⟩
  | .hbm, ⟨23, _⟩ => ⟨S4096x768, .f32⟩
  | .hbm, ⟨24, _⟩ => ⟨S768x4096, .f32⟩
  | .hbm, ⟨25, _⟩ => ⟨S8x1024x4096, .f32⟩
  | .hbm, ⟨26, _⟩ => ⟨S_, .f32⟩
  | .hbm, ⟨27, _⟩ => ⟨S8x1024x4096, .f32⟩
  | .hbm, ⟨28, _⟩ => ⟨S8x1024x4096, .f32⟩
  | .hbm, ⟨29, _⟩ => ⟨S_, .f32⟩
  | .hbm, ⟨30, _⟩ => ⟨S8x4096, .f32⟩
  | .hbm, ⟨31, _⟩ => ⟨S8x1x4096, .f32⟩
  | .hbm, ⟨32, _⟩ => ⟨S8x1024x4096, .i32⟩
  | .hbm, ⟨33, _⟩ => ⟨S_, .f32⟩
  | .hbm, ⟨34, _⟩ => ⟨S_, .i32⟩
  | .hbm, ⟨35, _⟩ => ⟨S8x4096, .f32⟩
  | .hbm, ⟨36, _⟩ => ⟨S8x4096, .i32⟩
  | .hbm, ⟨37, _⟩ => ⟨S8x1x4096, .i32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call2_v0 : Ref sig .tc := ⟨.hbm, 13, rfl⟩
abbrev main_call2_cst : Ref sig .tc := ⟨.hbm, 14, rfl⟩
abbrev main_call2_v1 : Ref sig .tc := ⟨.hbm, 15, rfl⟩
abbrev main_call2_v2 : Ref sig .tc := ⟨.hbm, 16, rfl⟩
abbrev main_v4 : Ref sig .tc := ⟨.hbm, 17, rfl⟩
abbrev main_cst_0 : Ref sig .tc := ⟨.hbm, 18, rfl⟩
abbrev main_call3_v0 : Ref sig .tc := ⟨.hbm, 19, rfl⟩
abbrev main_call3_v1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_call4_v0 : Ref sig .tc := ⟨.hbm, 32, rfl⟩
abbrev main_call4_cst : Ref sig .tc := ⟨.hbm, 33, rfl⟩
abbrev main_call4_c : Ref sig .tc := ⟨.hbm, 34, rfl⟩
abbrev main_call4_v1_0 : Ref sig .tc := ⟨.hbm, 35, rfl⟩
abbrev main_v14 : Ref sig .tc := ⟨.hbm, 36, rfl⟩
abbrev main_v15 : Ref sig .tc := ⟨.hbm, 37, rfl⟩

abbrev nD : Nat := 1
abbrev τ : Topo := Topo.v7x

variable {F : FTy → Type} [FloatOps F]
-- ==== Proof.Vocab.lean ====
/- The kernel's value as a short vocabulary. The printed body writes its loops out: four chunks of 256 patches, each of 32
   groups of eight rows, four column quarters, then three rolls per quarter. Here the same operations are recursions:
   the running maximum and the running group index over the 128 groups of one column quarter, and one merge step per roll. -/
module

public import proofs.«01_k».proof.Proof.Gen.KernelIdeal.Skeleton

@[expose] public section

noncomputable section

namespace Cert.KernelIdeal.Vocab

open Cert.KernelIdeal Cert.KernelIdeal.Gen Idealize.ShloMosaic Idealize.SL.Sem

variable {F : FTy → Type} [FloatOps F] [Named F]

/-- A group of eight rows lies inside a chunk. -/
theorem slices_group (k : ℕ) : S32x8x4096.Slices ![k % 32, 0, 0] S1x8x4096 := by
  refine ⟨rfl, fun a => ?_⟩
  have hk : k % 32 < 32 := Nat.mod_lt _ (by decide)
  fin_cases a <;> simp [S32x8x4096, S1x8x4096]
  omega

/-- A column quarter lies inside the columns. -/
theorem slices_quarter (h : Fin 4) : S8x4096.Slices ![0, 1024 * h.val] S8x1024 := by
  refine ⟨rfl, fun a => ?_⟩
  have hh := h.isLt
  fin_cases a <;> simp [S8x4096, S8x1024]
  omega

/-- The dot products of group `k`'s eight rows with the prototypes of quarter `h`: group `k % 32` of chunk `k / 32`. -/
def slab (D : ℕ → FVec F S32x8x4096 .f32) (h : Fin 4) (k : ℕ) : FVec F S8x1024 .f32 :=
  extractStridedSlice S8x1024 ![0, 1024 * h.val]
    (shapeCast S8x4096 (extractStridedSlice S1x8x4096 ![k % 32, 0, 0] (D (k / 32)) (slices_group k)) shapeCasts_S1x8x4096_S8x4096)
    (slices_quarter h)

/-- The running maximum of quarter `h` after groups `0 … k`. -/
def runMax (D : ℕ → FVec F S32x8x4096 .f32) (h : Fin 4) (k : ℕ) : FVec F S8x1024 .f32 :=
  Nat.rec (slab D h 0) (fun k m => maximumf (slab D h (k + 1)) m) k

/-- The group where the running maximum was last raised. -/
def runIdx (D : ℕ → FVec F S32x8x4096 .f32) (h : Fin 4) (k : ℕ) : IVec S8x1024 32 :=
  Nat.rec (broadcast S8x1024 0#32)
    (fun k i => select (cmpf .ogt (runMax D h (k + 1)) (runMax D h k)) (broadcast S8x1024 (BitVec.ofNat 32 (k + 1))) i) k

/-- The row number of each of the eight sublanes' winners: eight times its group, plus the sublane. -/
def rows (i : IVec S8x1024 32) : IVec S8x1024 32 :=
  addi (muli i (broadcast S8x1024 8#32)) (iota .tc S8x1024 32 [0] iota_S8x1024_d0_w32)

/-- Which sublanes the sublane `sh` before them beats: a larger value, or an equal value at a smaller row. -/
def better (sh : BitVec 32) (m : FVec F S8x1024 .f32) (r : IVec S8x1024 32) : IVec S8x1024 1 :=
  ori (cmpf .ogt (dynamicRotate 0 sh none m rotates_S8x1024_d0) m)
    (andi (cmpf .oeq (dynamicRotate 0 sh none m rotates_S8x1024_d0) m) (cmpi .slt (dynamicRotate 0 sh none r rotates_S8x1024_d0) r))

/-- The values after one merge step. -/
def mergeVal (sh : BitVec 32) (m : FVec F S8x1024 .f32) (r : IVec S8x1024 32) : FVec F S8x1024 .f32 :=
  select (better sh m r) (dynamicRotate 0 sh none m rotates_S8x1024_d0) m

/-- The rows after one merge step. -/
def mergeRow (sh : BitVec 32) (m : FVec F S8x1024 .f32) (r : IVec S8x1024 32) : IVec S8x1024 32 :=
  select (better sh m r) (dynamicRotate 0 sh none r rotates_S8x1024_d0) r

/-- One merge step on values and rows together. -/
def merge (sh : BitVec 32) (p : FVec F S8x1024 .f32 × IVec S8x1024 32) : FVec F S8x1024 .f32 × IVec S8x1024 32 :=
  (mergeVal sh p.1 p.2, mergeRow sh p.1 p.2)

/-- Values and rows of quarter `h` after the three merge steps. -/
def winner (D : ℕ → FVec F S32x8x4096 .f32) (h : Fin 4) : FVec F S8x1024 .f32 × IVec S8x1024 32 :=
  merge 1#32 (merge 2#32 (merge 4#32 (runMax D h 127, rows (runIdx D h 127))))

/-- What the kernel stores of quarter `h` in its first result: one minus the first sublane's value. -/
def distPiece (D : ℕ → FVec F S32x8x4096 .f32) (h : Fin 4) : FVec F S1x1x1024 .f32 :=
  shapeCast S1x1x1024
    (subf (broadcast S1024 (Scalar.ofBits .f32 0x3F800000#32))
      (shapeCast S1024 (extractStridedSlice S1x1024 ![0, 0] (winner D h).1 slices_S8x1024_o0_0_S1x1024) shapeCasts_S1x1024_S1024))
    shapeCasts_S1024_S1x1x1024

/-- What the kernel stores of quarter `h` in its second result: the first sublane's row. -/
def rowPiece (D : ℕ → FVec F S32x8x4096 .f32) (h : Fin 4) : IVec S1x1x1024 32 :=
  shapeCast S1x1x1024
    (shapeCast S1024 (extractStridedSlice S1x1024 ![0, 0] (winner D h).2 slices_S8x1024_o0_0_S1x1024) shapeCasts_S1x1024_S1024)
    shapeCasts_S1024_S1x1x1024

/-- The dot products of chunk `c`: the chunk's normalised rows against the normalised prototypes `pn`, the four chunks
    of a batch being `x0 … x3`. -/
def chunkDots (pn : Vec F S4096x768 .f32) (x0 x1 x2 x3 : Vec F S1x256x768 .f32) (c : ℕ) : FVec F S32x8x4096 .f32 :=
  match c with
  | 0 => k0_pay4 pn x0
  | 1 => k0_pay4 pn x1
  | 2 => k0_pay4 pn x2
  | _ => k0_pay4 pn x3

end Cert.KernelIdeal.Vocab

end
-- ==== Proof.Pieces.lean ====
/- What the body stores, in the vocabulary of `Vocab`: at every point, quarter `h` of either result is the quarter's piece
   of the chunks' dot products. The printed operations unfold to the vocabulary's, so each equation is decided by
   evaluation; then the loads are read back as slices of what the staging buffers hold. -/
module

public import proofs.«01_k».proof.Proof.Vocab
public import proofs.«01_k».proof.Proof.Gen.KernelIdeal.Frame
public import Idealize.ShloMosaic.Lib.Pipeline.Value

@[expose] public section

set_option maxRecDepth 65536

noncomputable section

namespace Cert.KernelIdeal.Pieces

open Cert.KernelIdeal Cert.KernelIdeal.Gen Cert.KernelIdeal.Vocab
open Idealize.ShloMosaic Idealize.ShloMosaic.TcCoe Idealize.SL.Sem Idealize.ShloMosaic.Tactic

variable {F : FTy → Type} [FloatOps F] [Named F]

/-- The four stores of a result, last first, given what each quarter holds. -/
def stores {φ : EltTy} (p : Fin 4 → Vec F S1x1x1024 φ) : List (View.Piece (Elt F) S1x1x4096 φ) :=
  [⟨Rect.unit ![0, 0, 3072] ![1, 1, 1024] inb_S1x1x4096_S1x1x1024_0_0_3072, p 3⟩,
   ⟨Rect.unit ![0, 0, 2048] ![1, 1, 1024] inb_S1x1x4096_S1x1x1024_0_0_2048, p 2⟩,
   ⟨Rect.unit ![0, 0, 1024] ![1, 1, 1024] inb_S1x1x4096_S1x1x1024_0_0_1024, p 1⟩,
   ⟨Rect.unit ![0, 0, 0] ![1, 1, 1024] inb_S1x1x4096_S1x1x1024_0_0_0, p 0⟩]

/-- The chunks' dot products as the body loads them: the four chunks from the first window's buffer, against `pn`. -/
def loadedDots (arg2 : Memref sig .tc .vmem S1x1024x768 .f32) (f : arg2.view.ty.shape.Idx → Elt F arg2.view.ty.elt) (pn : Vec F S4096x768 .f32) : ℕ → FVec F S32x8x4096 .f32 :=
  chunkDots pn
    (View.readAt (Elt F) arg2.view (Rect.unit (s := S1x1024x768) ![0, 0, 0] S1x256x768.size inb_S1x1024x768_S1x256x768_0_0_0).toLoadRect f)
    (View.readAt (Elt F) arg2.view (Rect.unit (s := S1x1024x768) ![0, 256, 0] S1x256x768.size inb_S1x1024x768_S1x256x768_0_256_0).toLoadRect f)
    (View.readAt (Elt F) arg2.view (Rect.unit (s := S1x1024x768) ![0, 512, 0] S1x256x768.size inb_S1x1024x768_S1x256x768_0_512_0).toLoadRect f)
    (View.readAt (Elt F) arg2.view (Rect.unit (s := S1x1024x768) ![0, 768, 0] S1x256x768.size inb_S1x1024x768_S1x256x768_0_768_0).toLoadRect f)

variable (c : Dev nD) (i : grid0.Coords) (arg2 : Memref sig .tc .vmem S1x1024x768 .f32) (harg2 : arg2.IsWhole) (arg3 : Memref sig .tc .vmem S4096x768 .f32) (harg3 : arg3.IsWhole) (arg4 : Memref sig .tc .vmem S1x1x4096 .f32) (harg4 : arg4.IsWhole) (arg5 : Memref sig .tc .vmem S1x1x4096 .i32) (harg5 : arg5.IsWhole) (arg6 : Memref sig .tc .vmem S4096x768 .f32) (harg6 : arg6.IsWhole)
    (x0 : Vec F S1x1024x768 .f32) (x1 : Vec F S4096x768 .f32) (xs0 : Vec F S4096x768 .f32)

/-- The carried prototypes as a later point loads them. -/
def loadedScratch : Vec F S4096x768 .f32 :=
  View.readAt (Elt F) arg6.view (Rect.unit (s := S4096x768) ![0, 0] S4096x768.size inb_S4096x768_S4096x768_0_0).toLoadRect (harg6.unread xs0)

/-- The prototypes as the first point loads them from the second window's buffer. -/
def loadedProtos : Vec F S4096x768 .f32 :=
  View.readAt (Elt F) arg3.view (Rect.unit (s := S4096x768) ![0, 0] S4096x768.size inb_S4096x768_S4096x768_0_0).toLoadRect (harg3.unread x1)

/-- The first point's store into the scratch: the normalised prototypes. -/
def scratchStore : List (View.Piece (Elt F) S4096x768 .f32) :=
  [⟨Rect.unit (s := S4096x768) ![0, 0] S4096x768.size inb_S4096x768_S4096x768_0_0, k0_pay3 (loadedProtos arg3 harg3 x1)⟩]

/-- The normalised prototypes as the first point loads them back. -/
def reloaded : Vec F S4096x768 .f32 :=
  arg6.view.readCov (scratchStore arg3 harg3 x1) (Rect.unit (s := S4096x768) ![0, 0] S4096x768.size inb_S4096x768_S4096x768_0_0).toLoadRect

/-- The first result's stores at a point that reads the carried prototypes. -/
theorem dist_B (hc0 : ¬cond0_0 i) :
    (kernelRun0_B c i arg2 harg2 arg3 harg3 arg4 harg4 arg5 harg5 arg6 harg6 hc0 x0 x1 xs0).1
      = stores (distPiece (loadedDots arg2 (harg2.unread x0) (loadedScratch arg6 harg6 xs0))) := by
  sl_kernel_rfl

/-- The second result's stores there. -/
theorem row_B (hc0 : ¬cond0_0 i) :
    (kernelRun0_B c i arg2 harg2 arg3 harg3 arg4 harg4 arg5 harg5 arg6 harg6 hc0 x0 x1 xs0).2.1
      = stores (φ := .i32) (rowPiece (loadedDots arg2 (harg2.unread x0) (loadedScratch arg6 harg6 xs0))) := by
  sl_kernel_rfl

/-- The first result's stores at a point that normalises the prototypes first. -/
theorem dist_A (hc0 : cond0_0 i) :
    (kernelRun0_A c i arg2 harg2 arg3 harg3 arg4 harg4 arg5 harg5 arg6 harg6 hc0 x0 x1).1
      = stores (distPiece (loadedDots arg2 (harg2.unread x0) (reloaded arg3 harg3 arg6 x1))) := by
  sl_kernel_rfl

/-- The second result's stores there. -/
theorem row_A (hc0 : cond0_0 i) :
    (kernelRun0_A c i arg2 harg2 arg3 harg3 arg4 harg4 arg5 harg5 arg6 harg6 hc0 x0 x1).2.1
      = stores (φ := .i32) (rowPiece (loadedDots arg2 (harg2.unread x0) (reloaded arg3 harg3 arg6 x1))) := by
  sl_kernel_rfl

/-- The scratch's store there. -/
theorem scratch_A (hc0 : cond0_0 i) :
    (kernelRun0_A c i arg2 harg2 arg3 harg3 arg4 harg4 arg5 harg5 arg6 harg6 hc0 x0 x1).2.2.1 = scratchStore arg3 harg3 x1 := by
  sl_kernel_rfl

/-! ## The loads read back -/

/-- The dot products of a batch `x` of patches with the prototypes `pn`, chunk by chunk. -/
def blockDots (x : Vec F S1x1024x768 .f32) (pn : Vec F S4096x768 .f32) : ℕ → FVec F S32x8x4096 .f32 :=
  chunkDots pn
    (extractStridedSlice S1x256x768 ![0, 0, 0] x ⟨rfl, inb_S1x1024x768_S1x256x768_0_0_0⟩)
    (extractStridedSlice S1x256x768 ![0, 256, 0] x ⟨rfl, inb_S1x1024x768_S1x256x768_0_256_0⟩)
    (extractStridedSlice S1x256x768 ![0, 512, 0] x ⟨rfl, inb_S1x1024x768_S1x256x768_0_512_0⟩)
    (extractStridedSlice S1x256x768 ![0, 768, 0] x ⟨rfl, inb_S1x1024x768_S1x256x768_0_768_0⟩)

theorem loadedDots_eq (pn : Vec F S4096x768 .f32) : loadedDots arg2 (harg2.unread x0) pn = blockDots x0 pn := by
  unfold loadedDots blockDots
  simp only [View.readAt_eq_ld, harg2.read_unread, View.ld_unit]

theorem zeros2 : (![0, 0] : Fin 2 → ℕ) = fun _ => 0 := by decide

theorem loadedScratch_eq : loadedScratch arg6 harg6 xs0 = xs0 := by
  unfold loadedScratch
  rw [View.readAt_eq_ld, harg6.read_unread]
  exact View.ld_unit_zero (S := S4096x768) zeros2 _ xs0

theorem loadedProtos_eq : loadedProtos arg3 harg3 x1 = x1 := by
  unfold loadedProtos
  rw [View.readAt_eq_ld, harg3.read_unread]
  exact View.ld_unit_zero (S := S4096x768) zeros2 _ x1

theorem reloaded_eq : reloaded arg3 harg3 arg6 x1 = k0_pay3 x1 := by
  unfold reloaded scratchStore
  rw [loadedProtos_eq]
  exact View.readCov_unit_zero (S := S4096x768) arg6.view zeros2 _ _

/-! ## What a point leaves -/

/-- What any point leaves in the first result's buffer, for a batch `x` and normalised prototypes `pn`. -/
def distBlock (x : Vec F S1x1024x768 .f32) (pn : Vec F S4096x768 .f32) : Vec F S1x1x4096 .f32 :=
  View.canon (stores (distPiece (blockDots x pn)))

/-- What it leaves in the second result's buffer. -/
def rowBlock (x : Vec F S1x1024x768 .f32) (pn : Vec F S4096x768 .f32) : Vec F S1x1x4096 .i32 :=
  View.canon (stores (φ := .i32) (rowPiece (blockDots x pn)))

theorem out_A_2 (hc0 : cond0_0 i) :
    out0_A_2 c i arg2 harg2 arg3 harg3 arg4 harg4 arg5 harg5 arg6 harg6 hc0 x0 x1 = distBlock x0 (k0_pay3 x1) := by
  unfold out0_A_2
  rw [View.read_writes_eq_canon _ _ _ (cover0_A_2 c i arg2 harg2 arg3 harg3 arg4 harg4 arg5 harg5 arg6 harg6 hc0 x0 x1),
    dist_A, loadedDots_eq, reloaded_eq]
  rfl

theorem out_A_3 (hc0 : cond0_0 i) :
    out0_A_3 c i arg2 harg2 arg3 harg3 arg4 harg4 arg5 harg5 arg6 harg6 hc0 x0 x1 = rowBlock x0 (k0_pay3 x1) := by
  unfold out0_A_3
  rw [View.read_writes_eq_canon _ _ _ (cover0_A_3 c i arg2 harg2 arg3 harg3 arg4 harg4 arg5 harg5 arg6 harg6 hc0 x0 x1),
    row_A, loadedDots_eq, reloaded_eq]
  rfl

theorem sout_A (hc0 : cond0_0 i) :
    sout0_A_0 c i arg2 harg2 arg3 harg3 arg4 harg4 arg5 harg5 arg6 harg6 hc0 x0 x1 = k0_pay3 x1 := by
  unfold sout0_A_0
  rw [View.read_writes_eq_canon _ _ _ (scover0_A_0 c i arg2 harg2 arg3 harg3 arg4 harg4 arg5 harg5 arg6 harg6 hc0 x0 x1),
    scratch_A]
  unfold scratchStore
  rw [loadedProtos_eq]
  exact View.canon_unit_zero (S := S4096x768) zeros2 _ _

theorem out_B_2 (hc0 : ¬cond0_0 i) :
    out0_B_2 c i arg2 harg2 arg3 harg3 arg4 harg4 arg5 harg5 arg6 harg6 hc0 x0 x1 xs0 = distBlock x0 xs0 := by
  unfold out0_B_2
  rw [View.read_writes_eq_canon _ _ _ (cover0_B_2 c i arg2 harg2 arg3 harg3 arg4 harg4 arg5 harg5 arg6 harg6 hc0 x0 x1 xs0),
    dist_B, loadedDots_eq, loadedScratch_eq]
  rfl

theorem out_B_3 (hc0 : ¬cond0_0 i) :
    out0_B_3 c i arg2 harg2 arg3 harg3 arg4 harg4 arg5 harg5 arg6 harg6 hc0 x0 x1 xs0 = rowBlock x0 xs0 := by
  unfold out0_B_3
  rw [View.read_writes_eq_canon _ _ _ (cover0_B_3 c i arg2 harg2 arg3 harg3 arg4 harg4 arg5 harg5 arg6 harg6 hc0 x0 x1 xs0),
    row_B, loadedDots_eq, loadedScratch_eq]
  rfl

end Cert.KernelIdeal.Pieces

end
-- ==== Proof.Grid.lean ====
/- What the grid leaves in the two results: point `b` of the grid writes batch `b`, from that batch's patches and the
   normalised prototypes, which the first point leaves in the scratch and every later point finds there. -/
module

public import proofs.«01_k».proof.Proof.Pieces
public import proofs.«01_k».proof.Proof.Gen.KernelIdeal.Value
public import Idealize.ShloMosaic.Lib.ValueIdxCore

@[expose] public section

set_option maxRecDepth 65536

noncomputable section

namespace Cert.KernelIdeal.Grid

open Cert.KernelIdeal Cert.KernelIdeal.Gen Cert.KernelIdeal.Vocab Cert.KernelIdeal.Pieces Cert.KernelIdeal.Value
open Idealize.ShloMosaic Idealize.ShloMosaic.TcCoe Idealize.SL.Sem Idealize.ShloMosaic.ValueIdx

variable {F : FTy → Type} [FloatOps F] [Named F]
variable (m : (ℓ : Loc nD τ sig) → Buf (Elt F) ℓ)

/-- The patches of batch `b`, as a block with one leading batch. -/
def batch (c : Dev nD) (b : Fin 8) : Vec F S1x1024x768 .f32 :=
  fun y => m ((c : Thread nD τ).loc main_arg0) (ix3 b (y 1) (y 2))

/-- The prototypes. -/
def protos (c : Dev nD) : Vec F S4096x768 .f32 := m ((c : Thread nD τ).loc main_arg1)

/-- The batch of a point. -/
def batchOf (t : Fin cfg0.N) : Fin 8 := ⟨t.val, lt_of_lt_of_eq t.isLt N_0⟩

theorem index_0 : ∀ t : Fin cfg0.N, win0_0.index t (0 : Fin 3) = t.val ∧ win0_0.index t (1 : Fin 3) = 0 ∧ win0_0.index t (2 : Fin 3) = 0 :=
  (by decide +kernel : ∀ t : Fin grid0.N, _)

theorem index_1 : ∀ t : Fin cfg0.N, win0_1.index t (0 : Fin 2) = 0 ∧ win0_1.index t (1 : Fin 2) = 0 :=
  (by decide +kernel : ∀ t : Fin grid0.N, _)

/-- The first window's block at a point is the point's batch. -/
theorem iblk_0 (c : Dev nD) (t : Fin cfg0.N) : iblk m c 0 t = batch m c (batchOf t) := by
  obtain ⟨e0, e1, e2⟩ := index_0 t
  funext y
  have hy0 : (y 0).val < 1 := (y 0).isLt
  show m ((c : Thread nD τ).loc main_arg0) (((cfg0.win 0).blk t).view.emb y) = _
  unfold batch
  refine congrArg _ ?_
  funext a; apply Fin.ext
  match a with
  | ⟨0, _⟩ => show win0_0.index t (0 : Fin 3) * 1 + 1 * (y 0).val = t.val; omega
  | ⟨1, _⟩ => show win0_0.index t (1 : Fin 3) * 1024 + 1 * (y 1).val = (y 1).val; omega
  | ⟨2, _⟩ => show win0_0.index t (2 : Fin 3) * 768 + 1 * (y 2).val = (y 2).val; omega

/-- The second window's block at every point is all the prototypes. -/
theorem iblk_1 (c : Dev nD) (t : Fin cfg0.N) : iblk m c 1 t = protos m c := by
  obtain ⟨e0, e1⟩ := index_1 t
  funext y
  show m ((c : Thread nD τ).loc main_arg1) (((cfg0.win 1).blk t).view.emb y) = _
  unfold protos
  refine congrArg _ ?_
  funext a; apply Fin.ext
  match a with
  | ⟨0, _⟩ => show win0_1.index t (0 : Fin 2) * 4096 + 1 * (y 0).val = (y 0).val; omega
  | ⟨1, _⟩ => show win0_1.index t (1 : Fin 2) * 768 + 1 * (y 1).val = (y 1).val; omega

/-- What point `n` leaves: its batch's two blocks, and the normalised prototypes in the scratch. -/
def left (c : Dev nD) (t : Fin cfg0.N) : Vec F S1x1x4096 .f32 × Vec F S1x1x4096 .i32 × Vec F S4096x768 .f32 :=
  (distBlock (batch m c (batchOf t)) (k0_pay3 (protos m c)), rowBlock (batch m c (batchOf t)) (k0_pay3 (protos m c)), k0_pay3 (protos m c))

/-- A point that normalises the prototypes leaves that, whatever it finds. -/
theorem step_A (c : Dev nD) (t : Fin cfg0.N) (acc) (h0 : t.val % 8 = 0) : stAt0 m c t.val t.isLt acc = left m c t := by
  rw [stAt0_A m c t acc h0, out_A_2, out_A_3, sout_A, iblk_0, iblk_1, left]

/-- A later point leaves that when it finds the normalised prototypes in the scratch. -/
theorem step_B (c : Dev nD) (t : Fin cfg0.N) (acc) (h0 : ¬t.val % 8 = 0) (hacc : acc.2.2 = k0_pay3 (protos m c)) :
    stAt0 m c t.val t.isLt acc = left m c t := by
  rw [stAt0_B m c t acc h0, out_B_2, out_B_3, iblk_0, hacc, left]
  rfl

/-- What every point leaves, by induction along the grid. -/
theorem outsAt_eq (c : Dev nD) (n : ℕ) (hn : n < cfg0.N) : outsAt0 m c n hn = left m c ⟨n, hn⟩ := by
  induction n with
  | zero => rw [outsAt0_zero]; exact step_A m c ⟨0, hn⟩ _ rfl
  | succ n ih =>
    rw [outsAt0_succ]
    by_cases h0 : (n + 1) % 8 = 0
    · exact step_A m c ⟨n + 1, hn⟩ _ h0
    · exact step_B m c ⟨n + 1, hn⟩ _ h0 (by rw [ih]; rfl)

/-- The fold of the steps is what the points leave. -/
theorem fold_eq (c : Dev nD) (n : ℕ) (hn : n < cfg0.N) (h : 0 + n < cfg0.N) :
    Pipeline.accAt (fun n h => stAt0 m c n h junk0) (stAt0 m c) 0 n h = left m c ⟨n, hn⟩ :=
  (outsAt0_sweep m c n hn).symm.trans (outsAt_eq m c n hn)

theorem lt_points (b : Fin 8) : b.val < cfg0.N := lt_of_lt_of_eq b.isLt N_0.symm

/-- The first result's array at an index, in the block of the index's point. -/
theorem array_2 (c : Dev nD) (i : S8x1x4096.Idx) (h : pt2Of i < cfg0.N) : G2 m c i = (left m c ⟨pt2Of i, h⟩).1 (loc2Of i) :=
  (dif_pos h).trans (congrArg (fun s => s.1 (loc2Of i)) (fold_eq m c (pt2Of i) h _))

/-- The second result's array at an index, likewise. -/
theorem array_3 (c : Dev nD) (i : S8x1x4096.Idx) (h : pt3Of i < cfg0.N) : G3 m c i = (left m c ⟨pt3Of i, h⟩).2.1 (loc3Of i) :=
  (dif_pos h).trans (congrArg (fun s => s.2.1 (loc3Of i)) (fold_eq m c (pt3Of i) h _))

/-- The number of the point whose block holds batch `b`. -/
theorem point_number (b : Fin 8) (q : Fin 4096) : 1 * (b.val / 1 - 0) + 1 * ((0 : Fin 1).val / 1 - 0) + 1 * (q.val / 4096 - 0) = b.val := by
  have := q.isLt
  show 1 * (b.val / 1 - 0) + 1 * (0 / 1 - 0) + 1 * (q.val / 4096 - 0) = b.val
  omega

/-- An index's place in its block keeps the column. -/
theorem place_2 (b : Fin 8) (q : Fin 4096) : loc2Of (ix3 b (0 : Fin 1) q) = ix3 (0 : Fin 1) (0 : Fin 1) q := by
  funext a; apply Fin.ext
  match a with
  | ⟨0, _⟩ => exact Nat.mod_one _
  | ⟨1, _⟩ => exact Nat.mod_one _
  | ⟨2, _⟩ => exact Nat.mod_eq_of_lt q.isLt

theorem place_3 (b : Fin 8) (q : Fin 4096) : loc3Of (ix3 b (0 : Fin 1) q) = ix3 (0 : Fin 1) (0 : Fin 1) q := place_2 b q

/-- The first result at batch `b`, column `q`. -/
theorem dist_apply (c : Dev nD) (b : Fin 8) (q : Fin 4096) :
    (dats m 0 c).arrAt 2 cfg0.N (ix3 b (0 : Fin 1) q) = distBlock (batch m c b) (k0_pay3 (protos m c)) (ix3 (0 : Fin 1) (0 : Fin 1) q) := by
  have hp : pt2Of (ix3 b (0 : Fin 1) q) = b.val := point_number b q
  have hlt : pt2Of (ix3 b (0 : Fin 1) q) < cfg0.N := hp ▸ lt_points b
  have hb : batchOf ⟨pt2Of (ix3 b (0 : Fin 1) q), hlt⟩ = b := Fin.ext hp
  rw [final2]
  refine (array_2 m c _ hlt).trans ?_
  rw [place_2]
  unfold left
  rw [hb]

/-- The second result at batch `b`, column `q`. -/
theorem row_apply (c : Dev nD) (b : Fin 8) (q : Fin 4096) :
    (dats m 0 c).arrAt 3 cfg0.N (ix3 b (0 : Fin 1) q) = rowBlock (batch m c b) (k0_pay3 (protos m c)) (ix3 (0 : Fin 1) (0 : Fin 1) q) := by
  have hp : pt3Of (ix3 b (0 : Fin 1) q) = b.val := point_number b q
  have hlt : pt3Of (ix3 b (0 : Fin 1) q) < cfg0.N := hp ▸ lt_points b
  have hb : batchOf ⟨pt3Of (ix3 b (0 : Fin 1) q), hlt⟩ = b := Fin.ext hp
  rw [final3]
  refine (array_3 m c _ hlt).trans ?_
  rw [place_3]
  unfold left
  rw [hb]

end Cert.KernelIdeal.Grid

end
-- ==== Proof.Dots.lean ====
/- The kernel's dot products at an index, over the extended reals: a normalised patch against a normalised prototype.
   A row is normalised by the reciprocal root of its squared length, the squared length kept at least `floor2`. -/
module

public import proofs.«01_k».proof.Proof.Pieces
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.PureOps.Ideal.Laws
public import Idealize.ShloMosaic.PureOps.IdealRules

@[expose] public section

noncomputable section

namespace Cert.KernelIdeal.Dots

open Cert.KernelIdeal Cert.KernelIdeal.Gen Cert.KernelIdeal.Vocab Cert.KernelIdeal.Pieces
open Idealize.ShloMosaic Idealize.SL.Sem Idealize.ShloMosaic.ValueIdx

/-- The floor of a squared length: the square of the reference's floor of a length. -/
def floor2 : EReal := ((5316911940649 / 5316911983139663491615228241121378304 : ℝ) : EReal)

theorem named_floor2 : (Named.named κ "eps2" 0x179ABE15#32 : Ideal .f32) = floor2 :=
  IdealRules.named_const.ideal_named_scalar _ _ _ _ rfl

/-- A row normalised as the kernel does it. -/
def unit (v : Fin 768 → EReal) (k : Fin 768) : EReal := v k * Ideal.rsqrt (max (∑ k', v k' * v k') floor2)

/-- Where the sum over the second axis takes its terms. -/
theorem lift_row {n : ℕ} (h : (⟨2, ![n, 768]⟩ : Shape).Reduces [1] ⟨1, ![n]⟩) (q : Fin n) (k : Fin 768) :
    h.lift (ix1 q) k = ix2 q k := by
  funext a
  match a with
  | ⟨0, _⟩ => rfl
  | ⟨1, _⟩ => rfl

/-- The normalisation at an index, for any number of rows: product by the reciprocal root, spread along the row. -/
theorem unit_apply {n : ℕ} (p : FVec Ideal ⟨2, ![n, 768]⟩ .f32) (h : (⟨2, ![n, 768]⟩ : Shape).Reduces [1] ⟨1, ![n]⟩) (hφ) (hacc)
    (hc : (⟨1, ![n]⟩ : Shape).ShapeCasts ⟨2, ![n, 1]⟩) (hb : (⟨2, ![n, 1]⟩ : Shape).Broadcasts ⟨2, ![n, 768]⟩) (q : Fin n) (k : Fin 768) :
    mulf p (broadcastTo ⟨2, ![n, 768]⟩
      (rsqrt (maximumf (shapeCast ⟨2, ![n, 1]⟩ (multiReduction .add [1] ⟨1, ![n]⟩ (mulf p p) 0x00000000#32 h hφ hacc) hc)
        (broadcast ⟨2, ![n, 1]⟩ (Named.named κ "eps2" 0x179ABE15#32 : Ideal .f32)))) hb) (ix2 q k)
      = unit (fun k => p (ix2 q k)) k := by
  rw [mulf_apply, broadcastTo_apply _ hb (ix2 q k) (ix2 q (0 : Fin 1)) (fun a => by
    match a with
    | ⟨0, _⟩ =>
      show q.val = if n = 1 then 0 else q.val
      split
      · have := q.isLt; omega
      · rfl
    | ⟨1, _⟩ => rfl)]
  show p (ix2 q k) * Ideal.rsqrt (max (shapeCast ⟨2, ![n, 1]⟩ _ hc (ix2 q (0 : Fin 1))) (Named.named κ "eps2" 0x179ABE15#32 : Ideal .f32)) = _
  rw [shapeCast_a_a1_apply, Ideal.multiReduction_add_single, named_floor2]
  exact congrArg (fun t => p (ix2 q k) * Ideal.rsqrt (max t floor2))
    (Finset.sum_congr rfl fun k' _ => congrArg (fun i => p i * p i) (lift_row h q k'))

/-- The normalised prototypes at an index. -/
theorem pay3_apply (p : Vec Ideal S4096x768 .f32) (q : Fin 4096) (k : Fin 768) :
    k0_pay3 (F := Ideal) p (ix2 q k) = unit (fun k => p (ix2 q k)) k := by
  unfold k0_pay3
  dsimp only
  rw [shapeCast_apply _ shapeCasts_S4096x768_S4096x768 (ix2 q k) (ix2 q k) rfl]
  exact unit_apply p _ _ _ _ _ q k

/-- Row `8g + r` of a chunk. -/
def chunkRow (g : Fin 32) (r : Fin 8) : Fin 256 := ⟨8 * g.val + r.val, by omega⟩

/-- A chunk's dot products at an index. -/
theorem pay4_apply (pn : Vec Ideal S4096x768 .f32) (x : Vec Ideal S1x256x768 .f32) (g : Fin 32) (r : Fin 8) (q : Fin 4096) :
    k0_pay4 (F := Ideal) pn x (ix3 g r q)
      = ∑ k : Fin 768, unit (fun k => x (ix3 (0 : Fin 1) (chunkRow g r) k)) k * pn (ix2 q k) := by
  unfold k0_pay4
  dsimp only
  rw [shapeCast_apply _ shapeCasts_S256x4096_S32x8x4096 (ix3 g r q) (ix2 (chunkRow g r) q) (by
    rw [Shape.rowMajor_val_two, Shape.rowMajor_val_three]
    show (8 * g.val + r.val) * 4096 + q.val = (g.val * 8 + r.val) * 4096 + q.val
    omega)]
  refine (Ideal.matmul_transposedRhs_apply none _ _ _ (chunkRow g r) q).trans ?_
  rw [constant_apply, Ideal.ofBits_zero_f32, zero_add]
  refine Finset.sum_congr rfl fun k _ => congrArg (· * _) ?_
  refine (unit_apply _ _ _ _ _ _ (chunkRow g r) k).trans ?_
  simp only [shapeCast_1ab_ab_apply]

/-- Row `s` of a batch. -/
def batchRow (s : ℕ) : Fin 1024 := ⟨s % 1024, Nat.mod_lt _ (by decide)⟩

/-- The dot product of row `s` of the batch `x`, normalised, with row `q` of `pn`. -/
def rowDot (x : Vec Ideal S1x1024x768 .f32) (pn : Vec Ideal S4096x768 .f32) (q : Fin 4096) (s : ℕ) : EReal :=
  ∑ k : Fin 768, unit (fun k => x (ix3 (0 : Fin 1) (batchRow s) k)) k * pn (ix2 q k)

/-- A chunk's dot products, the chunk being the batch's rows from `o` on. -/
theorem pay4_slice (x : Vec Ideal S1x1024x768 .f32) (pn : Vec Ideal S4096x768 .f32) (o : ℕ) (h : S1x1024x768.Slices ![0, o, 0] S1x256x768)
    (g : Fin 32) (r : Fin 8) (q : Fin 4096) (ho : o ≤ 768) :
    k0_pay4 (F := Ideal) pn (extractStridedSlice S1x256x768 ![0, o, 0] x h) (ix3 g r q) = rowDot x pn q (o + (8 * g.val + r.val)) := by
  rw [pay4_apply]
  unfold rowDot
  have hs := fun k : Fin 768 => slice3_axis1_apply o x h (0 : Fin 1) (chunkRow g r) k (batchRow (o + (8 * g.val + r.val)))
    (by show (o + (8 * g.val + r.val)) % 1024 = o + (8 * g.val + r.val); omega)
  refine Finset.sum_congr rfl fun k _ => congrArg (· * _) (congrArg (unit · k) (funext hs))

/-- The dot products of group `k`, chunk `k / 32`'s group `k % 32`: those of the batch's rows from `8k` on. -/
theorem blockDots_apply (x : Vec Ideal S1x1024x768 .f32) (pn : Vec Ideal S4096x768 .f32) (k : ℕ) (hk : k < 128) (r : Fin 8) (q : Fin 4096) :
    blockDots x pn (k / 32) (ix3 (⟨k % 32, Nat.mod_lt _ (by decide)⟩ : Fin 32) r q) = rowDot x pn q (8 * k + r.val) := by
  have hc : k / 32 = 0 ∨ k / 32 = 1 ∨ k / 32 = 2 ∨ k / 32 = 3 := by omega
  rcases hc with hc | hc | hc | hc
  all_goals
    rw [hc]
    refine (pay4_slice x pn _ _ _ r q (by decide)).trans (congrArg _ ?_)
    show _ + (8 * (k % 32) + r.val) = _
    omega

end Cert.KernelIdeal.Dots

end
-- ==== Proof.Best.lean ====
/- The best row of a set of rows: the largest score, and among equal scores the smallest row number. The kernel keeps such
   a best row per group of rows and merges groups; the reference looks for the same row from the other side (the smallest
   distance). This module has the notion and the few facts about it that both sides use; it mentions no program. -/
module

public import Mathlib.Data.EReal.Operations

@[expose] public section

namespace Cert.Best

/-- `Best d S s`: row `s` is in `S`, and every row of `S` has a smaller score, or the same score and a number at least `s`. -/
def Best (d : ℕ → EReal) (S : ℕ → Prop) (s : ℕ) : Prop :=
  S s ∧ ∀ s', S s' → d s' < d s ∨ (d s' = d s ∧ s ≤ s')

variable {d : ℕ → EReal} {S T : ℕ → Prop} {s t : ℕ}

/-- There is at most one best row. -/
theorem Best.unique (hs : Best d S s) (ht : Best d S t) : s = t := by
  rcases hs.2 t ht.1 with h | ⟨h, hle⟩
  · rcases ht.2 s hs.1 with h' | ⟨h', -⟩
    · exact absurd (h.trans h') (lt_irrefl _)
    · exact absurd h (h' ▸ lt_irrefl _)
  · rcases ht.2 s hs.1 with h' | ⟨-, hle'⟩
    · exact absurd h' (h ▸ lt_irrefl _)
    · exact le_antisymm hle hle'

/-- The notion depends on the set only through its members. -/
theorem Best.congr (h : ∀ x, S x ↔ T x) (hs : Best d S s) : Best d T s :=
  ⟨(h s).1 hs.1, fun x hx => hs.2 x ((h x).2 hx)⟩

/-- A set of one row. -/
theorem best_single (d : ℕ → EReal) (s : ℕ) : Best d (fun x => x = s) s :=
  ⟨rfl, fun x hx => Or.inr ⟨by rw [hx], by rw [hx]⟩⟩

/-- Merging two sets when the second set's best row wins: a larger score, or an equal score at a smaller number. -/
theorem Best.merge_right (hs : Best d S s) (ht : Best d T t) (h : d s < d t ∨ (d t = d s ∧ t < s)) :
    Best d (fun x => S x ∨ T x) t := by
  refine ⟨Or.inr ht.1, fun x hx => ?_⟩
  rcases hx with hx | hx
  · rcases h with h | ⟨h, hlt⟩
    · rcases hs.2 x hx with h' | ⟨h', -⟩
      · exact Or.inl (h'.trans h)
      · exact Or.inl (h' ▸ h)
    · rcases hs.2 x hx with h' | ⟨h', hle⟩
      · exact Or.inl (h ▸ h')
      · exact Or.inr ⟨h'.trans h.symm, hlt.le.trans hle⟩
  · exact ht.2 x hx

/-- Merging two sets when the first set's best row stays. -/
theorem Best.merge_left (hs : Best d S s) (ht : Best d T t) (h : ¬(d s < d t ∨ (d t = d s ∧ t < s))) :
    Best d (fun x => S x ∨ T x) s := by
  rw [not_or, not_lt, not_and, not_lt] at h
  obtain ⟨hle, htie⟩ := h
  refine ⟨Or.inl hs.1, fun x hx => ?_⟩
  rcases hx with hx | hx
  · exact hs.2 x hx
  · rcases hle.lt_or_eq with hlt | heq
    · rcases ht.2 x hx with h' | ⟨h', -⟩
      · exact Or.inl (h'.trans hlt)
      · exact Or.inl (h' ▸ hlt)
    · rcases ht.2 x hx with h' | ⟨h', hle'⟩
      · exact Or.inl (heq ▸ h')
      · exact Or.inr ⟨h'.trans heq, (htie heq).trans hle'⟩

/-- A new row beyond every row of the set replaces the best row exactly when its score is strictly larger. -/
theorem Best.snoc (hs : Best d S s) (hn : ∀ x, S x → x < t) :
    Best d (fun x => S x ∨ x = t) (if d s < d t then t else s) := by
  have hlt : s < t := hn s hs.1
  split
  · next h => exact hs.merge_right (best_single d t) (Or.inl h)
  · next h => exact hs.merge_left (best_single d t) (by rintro (h' | ⟨-, h'⟩); exacts [h h', absurd h' (by omega)])

end Cert.Best

end
-- ==== Proof.Winner.lean ====
/- The winner of a column: what the kernel keeps per sublane while it goes through the groups of eight rows, and what is left
   in the first sublane after the three merges, is the score and the number of the column's best row (`Best`). -/
module

public import proofs.«01_k».proof.Proof.Vocab
public import proofs.«01_k».proof.Proof.Best
public import Idealize.ShloMosaic.Lib.ValueIdx
public import Idealize.ShloMosaic.Lib.ValueLayout
public import Idealize.ShloMosaic.Lib.KernelVsHost
public import Idealize.ShloMosaic.Lib.WordArith

@[expose] public section

noncomputable section

namespace Cert.KernelIdeal.Winner

open Cert.KernelIdeal Cert.KernelIdeal.Gen Cert.KernelIdeal.Vocab Cert.Best
open Idealize.ShloMosaic Idealize.SL.Sem Idealize.ShloMosaic.ValueIdx Idealize.ShloMosaic.WordArith

/-! ## Choosing on a decided bit -/

theorem select_decide {α : Type} (p : Prop) [Decidable p] (x y : α) :
    Scalar.select (BitVec.ofBool (decide p)) x y = if p then x else y := by
  by_cases h : p <;> simp [h, Scalar.select]

theorem slt_ofNat (s t : ℕ) (hs : s < 1024) (ht : t < 1024) :
    IntOp.cmpi .slt (BitVec.ofNat 32 s) (BitVec.ofNat 32 t) = BitVec.ofBool (decide (s < t)) := by
  show BitVec.ofBool (BitVec.slt _ _) = _
  rw [BitVec.slt_eq_decide, toInt_ofNat_small s (by omega), toInt_ofNat_small t (by omega)]
  simp only [Nat.cast_lt]

/-! ## The groups -/

/-- Column `l` of quarter `h`. -/
def col (h : Fin 4) (l : Fin 1024) : Fin 4096 := ⟨1024 * h.val + l.val, by omega⟩

/-- The group's dot products at an index. -/
theorem slab_apply (D : ℕ → FVec Ideal S32x8x4096 .f32) (h : Fin 4) (k : ℕ) (r : Fin 8) (l : Fin 1024) :
    slab D h k (ix2 r l) = D (k / 32) (ix3 (⟨k % 32, Nat.mod_lt _ (by decide)⟩ : Fin 32) r (col h l)) := by
  unfold slab
  rw [slice2_axis1_apply (1024 * h.val) _ (slices_quarter h) r l (col h l) rfl, shapeCast_1ab_ab_apply]
  exact extractStridedSlice_apply _ _ (slices_group k) _ _ (fun a => by
    match a with
    | ⟨0, _⟩ => rfl
    | ⟨1, _⟩ => exact (Nat.zero_add _).symm
    | ⟨2, _⟩ => exact (Nat.zero_add _).symm)

/-- `Holds d S v w`: the value `v` and the row number `w` are the score and the number of the best row of `S`. -/
def Holds (d : ℕ → EReal) (S : ℕ → Prop) (v : EReal) (w : BitVec 32) : Prop :=
  ∃ s, Best d S s ∧ v = d s ∧ w = BitVec.ofNat 32 s

section Column

variable (D : ℕ → FVec Ideal S32x8x4096 .f32) (h : Fin 4) (l : Fin 1024) (d : ℕ → EReal)
  (hD : ∀ k, k < 128 → ∀ r : Fin 8, D (k / 32) (ix3 (⟨k % 32, Nat.mod_lt _ (by decide)⟩ : Fin 32) r (col h l)) = d (8 * k + r.val))

include hD

/-- After groups `0 … k`, sublane `r` keeps the best of the rows it has seen, as its score and its group. -/
theorem run_best (r : Fin 8) (k : ℕ) (hk : k < 128) :
    ∃ s, Best d (fun x => x % 8 = r.val ∧ x / 8 ≤ k) s ∧ runMax D h k (ix2 r l) = d s ∧ runIdx D h k (ix2 r l) = BitVec.ofNat 32 (s / 8) := by
  have hr := r.isLt
  induction k with
  | zero =>
    refine ⟨r.val, (best_single d r.val).congr fun x => by omega, ?_, ?_⟩
    · show slab D h 0 (ix2 r l) = _
      rw [slab_apply, hD 0 hk r, Nat.mul_zero, Nat.zero_add]
    · show 0#32 = BitVec.ofNat 32 (r.val / 8)
      rw [Nat.div_eq_of_lt hr]
  | succ k ih =>
    obtain ⟨s, hs, hm, hi⟩ := ih (by omega)
    have hnew : slab D h (k + 1) (ix2 r l) = d (8 * (k + 1) + r.val) := (slab_apply D h (k + 1) r l).trans (hD (k + 1) hk r)
    have hmax : runMax D h (k + 1) (ix2 r l) = max (d (8 * (k + 1) + r.val)) (d s) := by
      show max (slab D h (k + 1) (ix2 r l)) (runMax D h k (ix2 r l)) = _
      rw [hnew, hm]
    have hidx : runIdx D h (k + 1) (ix2 r l) = if d s < d (8 * (k + 1) + r.val) then BitVec.ofNat 32 (k + 1) else BitVec.ofNat 32 (s / 8) := by
      show Scalar.select (BitVec.ofBool (decide (runMax D h k (ix2 r l) < runMax D h (k + 1) (ix2 r l)))) (BitVec.ofNat 32 (k + 1)) (runIdx D h k (ix2 r l)) = _
      rw [hmax, hm, hi, select_decide]
      simp only [lt_max_iff, lt_irrefl, or_false]
    refine ⟨_, (hs.snoc (t := 8 * (k + 1) + r.val) fun x hx => by omega).congr fun x => by omega, ?_, ?_⟩
    · rw [hmax]
      split
      · next hlt => exact max_eq_left hlt.le
      · next hlt => exact max_eq_right (not_lt.1 hlt)
    · rw [hidx]
      split
      · exact congrArg _ (by omega)
      · rfl

/-- After all the groups: sublane `r` holds the best of its rows. -/
theorem rows_hold (r : Fin 8) :
    Holds d (fun x => x % 8 = r.val ∧ x < 1024) (runMax D h 127 (ix2 r l)) (rows (runIdx D h 127) (ix2 r l)) := by
  obtain ⟨s, hs, hm, hi⟩ := run_best D h l d hD r 127 (by decide)
  refine ⟨s, hs.congr fun x => by omega, hm, ?_⟩
  show runIdx D h 127 (ix2 r l) * 8#32 + iota .tc S8x1024 32 [0] iota_S8x1024_d0_w32 (ix2 r l) = _
  rw [hi, iota_single_apply]
  show BitVec.ofNat 32 (s / 8) * BitVec.ofNat 32 8 + BitVec.ofNat 32 r.val = _
  rw [← BitVec.ofNat_mul, ← BitVec.ofNat_add]
  have := hs.1
  exact congrArg _ (by omega)

end Column

/-! ## The merges -/

/-- The sublane a roll by `sh` brings to sublane `r`. -/
def back (sh : BitVec 32) (r : Fin 8) : Fin 8 := ⟨(r.val + 8 - sh.toNat % 8) % 8, Nat.mod_lt _ (by decide)⟩

theorem roll_apply {α : Type} (sh : BitVec 32) (x : S8x1024.Idx → α) (r : Fin 8) (l : Fin 1024) :
    dynamicRotate 0 sh none x rotates_S8x1024_d0 (ix2 r l) = x (ix2 (back sh r) l) :=
  dynamicRotate_apply _ _ _ _ _ _ (fun b => by
    match b with
    | ⟨0, _⟩ => rfl
    | ⟨1, _⟩ => rfl)

/-- A merge step joins two sublanes' sets of rows. -/
theorem merge_hold (sh : BitVec 32) (d : ℕ → EReal) (S : Fin 8 → ℕ → Prop) (hS : ∀ r x, S r x → x < 1024) (l : Fin 1024)
    (p : FVec Ideal S8x1024 .f32 × IVec S8x1024 32) (hp : ∀ r, Holds d (S r) (p.1 (ix2 r l)) (p.2 (ix2 r l))) (r : Fin 8) :
    Holds d (fun x => S r x ∨ S (back sh r) x) ((merge sh p).1 (ix2 r l)) ((merge sh p).2 (ix2 r l)) := by
  obtain ⟨s, hs, hv, hw⟩ := hp r
  obtain ⟨t, ht, hv', hw'⟩ := hp (back sh r)
  have hb : better sh p.1 p.2 (ix2 r l) = BitVec.ofBool (decide (d s < d t ∨ (d t = d s ∧ t < s))) := by
    show IntOp.ori
        (BitVec.ofBool (decide (p.1 (ix2 r l) < dynamicRotate 0 sh none p.1 rotates_S8x1024_d0 (ix2 r l))))
        (IntOp.andi (BitVec.ofBool (decide (dynamicRotate 0 sh none p.1 rotates_S8x1024_d0 (ix2 r l) = p.1 (ix2 r l))))
          (IntOp.cmpi .slt (dynamicRotate 0 sh none p.2 rotates_S8x1024_d0 (ix2 r l)) (p.2 (ix2 r l)))) = _
    rw [roll_apply, roll_apply, hv, hw, hv', hw', slt_ofNat t s (hS _ _ ht.1) (hS _ _ hs.1), andi_ofBool, ori_ofBool]
    simp only [Bool.decide_or, Bool.decide_and]
  have h1 : (merge sh p).1 (ix2 r l) = if d s < d t ∨ (d t = d s ∧ t < s) then d t else d s := by
    show Scalar.select (better sh p.1 p.2 (ix2 r l)) (dynamicRotate 0 sh none p.1 rotates_S8x1024_d0 (ix2 r l)) (p.1 (ix2 r l)) = _
    rw [hb, select_decide, roll_apply, hv, hv']
  have h2 : (merge sh p).2 (ix2 r l) = if d s < d t ∨ (d t = d s ∧ t < s) then BitVec.ofNat 32 t else BitVec.ofNat 32 s := by
    show Scalar.select (better sh p.1 p.2 (ix2 r l)) (dynamicRotate 0 sh none p.2 rotates_S8x1024_d0 (ix2 r l)) (p.2 (ix2 r l)) = _
    rw [hb, select_decide, roll_apply, hw, hw']
  rw [h1, h2]
  by_cases hlt : d s < d t ∨ (d t = d s ∧ t < s)
  · rw [if_pos hlt, if_pos hlt]
    exact ⟨t, hs.merge_right ht hlt, rfl, rfl⟩
  · rw [if_neg hlt, if_neg hlt]
    exact ⟨s, hs.merge_left ht hlt, rfl, rfl⟩

/-- The first sublane after the three merges holds the best of all the rows. -/
theorem winner_hold (D : ℕ → FVec Ideal S32x8x4096 .f32) (h : Fin 4) (l : Fin 1024) (d : ℕ → EReal)
    (hD : ∀ k, k < 128 → ∀ r : Fin 8, D (k / 32) (ix3 (⟨k % 32, Nat.mod_lt _ (by decide)⟩ : Fin 32) r (col h l)) = d (8 * k + r.val)) :
    Holds d (fun x => x < 1024) ((winner D h).1 (ix2 (0 : Fin 8) l)) ((winner D h).2 (ix2 (0 : Fin 8) l)) := by
  have h4 := merge_hold 4#32 d (fun r x => x % 8 = r.val ∧ x < 1024) (fun _ _ hx => hx.2) l (runMax D h 127, rows (runIdx D h 127)) (rows_hold D h l d hD)
  have h2 := merge_hold 2#32 d _ (fun r x hx => by omega) l _ h4
  have h1 := merge_hold 1#32 d _ (fun r x hx => by omega) l _ h2
  obtain ⟨s, hs, hv, hw⟩ := h1 0
  refine ⟨s, hs.congr fun x => ?_, hv, hw⟩
  simp only [back, BitVec.toNat_ofNat]
  show _ ↔ x < 1024
  norm_num
  omega

end Cert.KernelIdeal.Winner

end
-- ==== Proof.KernelValue.lean ====
/- The kernel's two results at an index: with `s` the best row of the batch for prototype `q`, one minus its dot product
   and its number. -/
module

public import proofs.«01_k».proof.Proof.Dots
public import proofs.«01_k».proof.Proof.Winner
public import Idealize.ShloMosaic.Lib.IdealHost

@[expose] public section

noncomputable section

namespace Cert.KernelIdeal.KernelValue

open Cert.KernelIdeal Cert.KernelIdeal.Gen Cert.KernelIdeal.Vocab Cert.KernelIdeal.Pieces Cert.KernelIdeal.Dots Cert.KernelIdeal.Winner Cert.Best
open Idealize.ShloMosaic Idealize.SL.Sem Idealize.ShloMosaic.ValueIdx

/-- The quarter of a column. -/
def quarter (q : Fin 4096) : Fin 4 := ⟨q.val / 1024, by omega⟩

/-- A column's place in its quarter. -/
def lane (q : Fin 4096) : Fin 1024 := ⟨q.val % 1024, Nat.mod_lt _ (by decide)⟩

theorem col_quarter (q : Fin 4096) : col (quarter q) (lane q) = q :=
  Fin.ext (by show 1024 * (q.val / 1024) + q.val % 1024 = q.val; omega)

/-- One store, of quarter `h`'s lanes, holds the quarter's piece where it lies. -/
theorem store_apply {φ : EltTy} (p : Fin 4 → Vec Ideal S1x1x1024 φ) (h : Fin 4) (o : ℕ) (ho : o = 1024 * h.val)
    (inb : ∀ a, (![0, 0, o] : Fin 3 → ℕ) a + (![1, 1, 1024] : Fin 3 → ℕ) a ≤ S1x1x4096.size a) (x : S1x1x1024.Idx) :
    p h x = (fun y : S1x1x4096.Idx => p (quarter (y 2)) (ix3 (0 : Fin 1) (0 : Fin 1) (lane (y 2))))
      ((Rect.unit (s := S1x1x4096) ![0, 0, o] ![1, 1, 1024] inb).emb x) := by
  have hx : (x 2).val < 1024 := (x 2).isLt
  have h2 : (((Rect.unit (s := S1x1x4096) ![0, 0, o] ![1, 1, 1024] inb).emb x) 2).val = o + 1 * (x 2).val := rfl
  have hq : quarter (((Rect.unit (s := S1x1x4096) ![0, 0, o] ![1, 1, 1024] inb).emb x) 2) = h :=
    Fin.ext (by show (((Rect.unit (s := S1x1x4096) ![0, 0, o] ![1, 1, 1024] inb).emb x) 2).val / 1024 = h.val; omega)
  have hl : lane (((Rect.unit (s := S1x1x4096) ![0, 0, o] ![1, 1, 1024] inb).emb x) 2) = x 2 :=
    Fin.ext (by show (((Rect.unit (s := S1x1x4096) ![0, 0, o] ![1, 1, 1024] inb).emb x) 2).val % 1024 = (x 2).val; omega)
  dsimp only
  rw [hq, hl]
  refine congrArg (p h) ?_
  funext a
  match a with
  | ⟨0, _⟩ => exact Subsingleton.elim (α := Fin 1) _ _
  | ⟨1, _⟩ => exact Subsingleton.elim (α := Fin 1) _ _
  | ⟨2, _⟩ => rfl

/-- A store of quarter `h`'s lanes covers the quarter's columns. -/
theorem store_mem (q : Fin 4096) (o : ℕ) (ho : o = 1024 * (quarter q).val)
    (inb : ∀ a, (![0, 0, o] : Fin 3 → ℕ) a + (![1, 1, 1024] : Fin 3 → ℕ) a ≤ S1x1x4096.size a) :
    ix3 (0 : Fin 1) (0 : Fin 1) q ∈ (Rect.unit (s := S1x1x4096) ![0, 0, o] ![1, 1, 1024] inb).set := by
  rw [Rect.mem_set_unit]
  have hq : (quarter q).val = q.val / 1024 := rfl
  intro a
  match a with
  | ⟨0, _⟩ => exact ⟨Nat.le_refl 0, Nat.one_pos⟩
  | ⟨1, _⟩ => exact ⟨Nat.le_refl 0, Nat.one_pos⟩
  | ⟨2, _⟩ =>
    show o ≤ q.val ∧ q.val < o + 1024
    omega

/-- The four stores together hold, at column `q`, its quarter's piece at its place. -/
theorem stores_apply {φ : EltTy} (p : Fin 4 → Vec Ideal S1x1x1024 φ) (q : Fin 4096) :
    View.canon (stores p) (ix3 (0 : Fin 1) (0 : Fin 1) q) = p (quarter q) (ix3 (0 : Fin 1) (0 : Fin 1) (lane q)) := by
  refine View.canon_apply_of_pieces (fun y : S1x1x4096.Idx => p (quarter (y 2)) (ix3 (0 : Fin 1) (0 : Fin 1) (lane (y 2)))) (stores p) ?_ _ ?_
  · unfold stores
    simp only [List.forall_mem_cons, List.not_mem_nil, false_imp_iff, implies_true, and_true]
    exact ⟨store_apply p 3 3072 rfl _, store_apply p 2 2048 rfl _, store_apply p 1 1024 rfl _, store_apply p 0 0 rfl _⟩
  · unfold stores
    simp only [List.exists_mem_cons_iff, List.not_mem_nil, false_and, exists_false, or_false]
    have hq : (quarter q).val = q.val / 1024 := rfl
    have hc : q.val / 1024 = 3 ∨ q.val / 1024 = 2 ∨ q.val / 1024 = 1 ∨ q.val / 1024 = 0 := by omega
    rcases hc with hc | hc | hc | hc
    · exact Or.inl (store_mem q 3072 (by omega) _)
    · exact Or.inr (Or.inl (store_mem q 2048 (by omega) _))
    · exact Or.inr (Or.inr (Or.inl (store_mem q 1024 (by omega) _)))
    · exact Or.inr (Or.inr (Or.inr (store_mem q 0 (by omega) _)))

/-- A row of 1024 lanes with two leading unit axes added. -/
theorem shapeCast_lanes {α : Type} (x : S1024.Idx → α) (l : Fin 1024) :
    shapeCast S1x1x1024 x shapeCasts_S1024_S1x1x1024 (ix3 (0 : Fin 1) (0 : Fin 1) l) = x (ix1 l) :=
  shapeCast_apply x _ _ _ (by
    rw [Shape.rowMajor_val_one, Shape.rowMajor_val_three]
    show l.val = (0 * 1 + 0) * 1024 + l.val
    omega)

/-- The first sublane's lanes. -/
theorem first_sublane {α : Type} (x : S8x1024.Idx → α) (l : Fin 1024) :
    shapeCast S1024 (extractStridedSlice S1x1024 ![0, 0] x slices_S8x1024_o0_0_S1x1024) shapeCasts_S1x1024_S1024 (ix1 l) = x (ix2 (0 : Fin 8) l) := by
  rw [shapeCast_1a_a_apply]
  exact slice2_axis0_apply 0 x _ (0 : Fin 1) l (0 : Fin 8) rfl

theorem distPiece_apply (D : ℕ → FVec Ideal S32x8x4096 .f32) (h : Fin 4) (l : Fin 1024) :
    distPiece D h (ix3 (0 : Fin 1) (0 : Fin 1) l) = 1 - (winner D h).1 (ix2 (0 : Fin 8) l) := by
  unfold distPiece
  rw [shapeCast_lanes, subf_apply, first_sublane]
  show Ideal.ofBits .f32 0x3F800000#32 - _ = _
  rw [Ideal.ofBits_one_f32]

theorem rowPiece_apply (D : ℕ → FVec Ideal S32x8x4096 .f32) (h : Fin 4) (l : Fin 1024) :
    rowPiece D h (ix3 (0 : Fin 1) (0 : Fin 1) l) = (winner D h).2 (ix2 (0 : Fin 8) l) := by
  unfold rowPiece
  rw [shapeCast_lanes, first_sublane]

/-- Both results of a batch at column `q`, by the best row of the batch for it. -/
theorem block_apply (x : Vec Ideal S1x1024x768 .f32) (pn : Vec Ideal S4096x768 .f32) (q : Fin 4096) :
    ∃ s, Best (rowDot x pn q) (fun s => s < 1024) s
      ∧ distBlock x pn (ix3 (0 : Fin 1) (0 : Fin 1) q) = 1 - rowDot x pn q s
      ∧ rowBlock x pn (ix3 (0 : Fin 1) (0 : Fin 1) q) = BitVec.ofNat 32 s := by
  obtain ⟨s, hs, hv, hw⟩ := winner_hold (blockDots x pn) (quarter q) (lane q) (rowDot x pn q) fun k hk r => by
    rw [col_quarter]
    exact blockDots_apply x pn k hk r q
  refine ⟨s, hs, ?_, ?_⟩
  · unfold distBlock
    rw [stores_apply, distPiece_apply, hv]
  · unfold rowBlock
    rw [stores_apply, rowPiece_apply, hw]

end Cert.KernelIdeal.KernelValue

end
-- ==== Proof.RefRun.lean ====
/- The reference's run: its operations in order, what they leave in the two results as terms of the two arguments, and that
   they keep the arguments. -/
module

public import proofs.«01_k».proof.Defs
public import proofs.«01_k».proof.Proof.Gen.ReferenceIdeal
public import Idealize.ShloMosaic.Lib.StableHlo.Run
public import Idealize.ShloMosaic.Lib.Quiescent
public import Idealize.ShloMosaic.Adequacy
public import Idealize.ShloMosaic.Init

@[expose] public section

noncomputable section

namespace Cert.ReferenceIdeal.RefRun

open Cert.ReferenceIdeal Cert.ReferenceIdeal.Gen
open Idealize.ShloMosaic Idealize.ShloMosaic.TcCoe Idealize.ShloMosaic.StableHlo Idealize.SL.Sem

variable {F : FTy → Type} [FloatOps F]

/-! ## The results as terms of the arguments -/

/-- The features divided by their rows' lengths, each length at least the floor. -/
def unitFeatures (x : FVec F S8x1024x768 .f32) : FVec F S8x1024x768 .f32 :=
  Host.divf x (broadcastInDim S8x1024x768 ![0, 1, 2] bcast_S8x1024x1_S8x1024x768_0_1_2
    (maximumf (broadcastInDim S8x1024x1 ![] bcast_S_S8x1024x1 (constant (F := F) S_ .f32 0x2B8CBCCC#32))
      (Host.sqrt (broadcastInDim S8x1024x1 ![0, 1] bcast_S8x1024_S8x1024x1_0_1
        (Host.reduceAdd (mulf x x) (constant (F := F) S_ .f32 0x00000000#32) reducesTo_S8x1024x768_S8x1024_d2 h_S_)))))

/-- The prototypes divided by their lengths, each length at least the floor. -/
def unitProtos (p : FVec F S4096x768 .f32) : FVec F S4096x768 .f32 :=
  Host.divf p (broadcastInDim S4096x768 ![0, 1] bcast_S4096x1_S4096x768_0_1
    (maximumf (broadcastInDim S4096x1 ![] bcast_S_S4096x1 (constant (F := F) S_ .f32 0x2B8CBCCC#32))
      (Host.sqrt (broadcastInDim S4096x1 ![0] bcast_S4096_S4096x1_0
        (Host.reduceAdd (mulf p p) (constant (F := F) S_ .f32 0x00000000#32) reducesTo_S4096x768_S4096_d1 h_S_)))))

/-- Every feature row's distance to every prototype: one minus the dot product of the two unit vectors. -/
def distances (x : FVec F S8x1024x768 .f32) (p : FVec F S4096x768 .f32) : FVec F S8x1024x4096 .f32 :=
  subf (broadcastInDim S8x1024x4096 ![] bcast_S_S8x1024x4096 (constant (F := F) S_ .f32 0x3F800000#32))
    (Host.dotGeneral dot_S8x1024x768_S768x4096_S8x1024x4096_2_0_01_1_n_n none (unitFeatures x)
      (transpose S768x4096 [1, 0] (unitProtos p) transposes_S4096x768_S768x4096_1_0))

/-- The first result: the least distance over the rows. -/
def leastOf (d : FVec F S8x1024x4096 .f32) : FVec F S8x1x4096 .f32 :=
  broadcastInDim S8x1x4096 ![0, 2] bcast_S8x4096_S8x1x4096_0_2
    (Host.reduce FloatOps.minimumf d (constant (F := F) S_ .f32 0x7F800000#32) reducesTo_S8x1024x4096_S8x4096_d1 h_S_)

/-- The second result: the row at which the distance is least. -/
def rowOf (d : FVec F S8x1024x4096 .f32) : IVec S8x1x4096 32 :=
  broadcastInDim S8x1x4096 ![0, 2] bcast_S8x4096_S8x1x4096_0_2
    (fun j => (Host.argReduce reducer_argmin_f32_i32 d (iotaInDim S8x1024x4096 32 1) (constant (F := F) S_ .f32 0x7F800000#32)
      (constantI S_ 32 0#32) reducesTo_S8x1024x4096_S8x4096_d1 h_S_ j).2)

/-! ## The operations -/

/-- The main function's operations, in order, its calls replaced by the operations of their bodies. -/
abbrev ops : List (HloOp τ sig (Elt F)) :=
  [ TRef.binary (.of main_arg0) (.of main_arg0) main_call0.v0 mulf,
    TRef.nullary main_call0.cst (constant S_ .f32 0x00000000#32),
    TRef.binary main_call0.v0 main_call0.cst main_call0.v1
      (fun x v => Host.reduceAdd x v reducesTo_S8x1024x768_S8x1024_d2 h_S_),
    TRef.unary main_call0.v1 main_call0.v2 (broadcastInDim S8x1024x1 ![0, 1] bcast_S8x1024_S8x1024x1_0_1),
    TRef.unary main_call0.v2 main_call0.v3 Host.sqrt,
    nullary main_cst (constant S_ .f32 0x2B8CBCCC#32),
    TRef.unary (.of main_cst) main_call1.v0 id,
    TRef.unary main_call1.v0 main_call1.v1 (broadcastInDim S8x1024x1 ![] bcast_S_S8x1024x1),
    TRef.binary main_call1.v1 (.of main_v0) main_call1.v2 maximumf,
    unary main_v1 main_v2 (broadcastInDim S8x1024x768 ![0, 1, 2] bcast_S8x1024x1_S8x1024x768_0_1_2),
    binary main_arg0 main_v2 main_v3 Host.divf,
    TRef.binary (.of main_arg1) (.of main_arg1) main_call2.v0 mulf,
    TRef.nullary main_call2.cst (constant S_ .f32 0x00000000#32),
    TRef.binary main_call2.v0 main_call2.cst main_call2.v1
      (fun x v => Host.reduceAdd x v reducesTo_S4096x768_S4096_d1 h_S_),
    TRef.unary main_call2.v1 main_call2.v2 (broadcastInDim S4096x1 ![0] bcast_S4096_S4096x1_0),
    TRef.unary main_call2.v2 main_call2.v3 Host.sqrt,
    nullary main_cst_0 (constant S_ .f32 0x2B8CBCCC#32),
    TRef.unary (.of main_cst_0) main_call3.v0 id,
    TRef.unary main_call3.v0 main_call3.v1 (broadcastInDim S4096x1 ![] bcast_S_S4096x1),
    TRef.binary main_call3.v1 (.of main_v4) main_call3.v2 maximumf,
    unary main_v5 main_v6 (broadcastInDim S4096x768 ![0, 1] bcast_S4096x1_S4096x768_0_1),
    binary main_arg1 main_v6 main_v7 Host.divf,
    unary main_v7 main_v8 (transpose S768x4096 [1, 0] · transposes_S4096x768_S768x4096_1_0),
    binary main_v3 main_v8 main_v9
      (fun l r => Host.dotGeneral dot_S8x1024x768_S768x4096_S8x1024x4096_2_0_01_1_n_n none l r),
    nullary main_cst_1 (constant S_ .f32 0x3F800000#32),
    unary main_cst_1 main_v10 (broadcastInDim S8x1024x4096 ![] bcast_S_S8x1024x4096),
    binary main_v10 main_v9 main_v11 subf,
    nullary main_cst_2 (constant S_ .f32 0x7F800000#32),
    binary main_v11 main_cst_2 main_v12
      (fun x v => Host.reduce FloatOps.minimumf x v reducesTo_S8x1024x4096_S8x4096_d1 h_S_),
    unary main_v12 main_v13 (broadcastInDim S8x1x4096 ![0, 2] bcast_S8x4096_S8x1x4096_0_2),
    TRef.nullary main_call4.v0 (iotaInDim S8x1024x4096 32 1),
    TRef.nullary main_call4.cst (constant S_ .f32 0x7F800000#32),
    TRef.nullary main_call4.c (constantI S_ 32 0#32),
    TRef.quaternary (.of main_v11) main_call4.v0 main_call4.cst main_call4.c main_call4.v1_0
      (fun x y u v j => (Host.argReduce reducer_argmin_f32_i32 x y u v reducesTo_S8x1024x4096_S8x4096_d1 h_S_ j).1),
    TRef.quaternary (.of main_v11) main_call4.v0 main_call4.cst main_call4.c main_call4.v1_1
      (fun x y u v j => (Host.argReduce reducer_argmin_f32_i32 x y u v reducesTo_S8x1024x4096_S8x4096_d1 h_S_ j).2),
    unary main_v14 main_v15 (broadcastInDim S8x1x4096 ![0, 2] bcast_S8x4096_S8x1x4096_0_2) ]

/-- The main function is that straight line. -/
theorem main_eq (c : Dev nD) : main (F := F) c = seq ops := by
  simp only [main, fn_norm.body, fn_clip.body, fn_norm_0.body, fn_clip_1.body, fn_argmin.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation's buffers are the TensorCore's. -/
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub ..,
    unary_bufs_sub .., unary_bufs_sub .., binary_bufs_sub .., unary_bufs_sub .., binary_bufs_sub .., binary_bufs_sub ..,
    nullary_bufs_sub .., binary_bufs_sub .., unary_bufs_sub .., unary_bufs_sub .., nullary_bufs_sub .., unary_bufs_sub ..,
    unary_bufs_sub .., binary_bufs_sub .., unary_bufs_sub .., binary_bufs_sub .., unary_bufs_sub .., binary_bufs_sub ..,
    nullary_bufs_sub .., unary_bufs_sub .., binary_bufs_sub .., nullary_bufs_sub .., binary_bufs_sub .., unary_bufs_sub ..,
    nullary_bufs_sub .., nullary_bufs_sub .., nullary_bufs_sub .., quaternary_bufs_sub .., quaternary_bufs_sub ..,
    unary_bufs_sub ..⟩

/-! ## What they leave -/

/-- The first result. -/
theorem least_eq (V : Valuation τ sig (Elt F)) :
    after ops V (main_v13 : DevRef τ sig)
      = leastOf (distances (V (main_arg0 : DevRef τ sig)) (V (main_arg1 : DevRef τ sig))) := by
  after_results_simp
  rfl

/-- The second result. -/
theorem row_eq (V : Valuation τ sig (Elt F)) :
    after ops V (main_v15 : DevRef τ sig)
      = rowOf (distances (V (main_arg0 : DevRef τ sig)) (V (main_arg1 : DevRef τ sig))) := by
  after_results_simp
  rfl

/-- The features are kept. -/
theorem arg0_eq (V : Valuation τ sig (Elt F)) :
    after ops V (main_arg0 : DevRef τ sig) = V (main_arg0 : DevRef τ sig) := by
  simp only [after_cons, after_nil]
  rfl

/-- The prototypes are kept. -/
theorem arg1_eq (V : Valuation τ sig (Elt F)) :
    after ops V (main_arg1 : DevRef τ sig) = V (main_arg1 : DevRef τ sig) := by
  simp only [after_cons, after_nil]
  rfl

/-- Every run ends with the two results at those terms of the arguments, the arguments kept and every semaphore at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v13)
            = leastOf (distances (m ((c.tc : Thread nD τ).loc main_arg0)) (m ((c.tc : Thread nD τ).loc main_arg1)))
        ∧ r.2.mem ((c.tc : Thread nD τ).loc main_v15)
            = rowOf (distances (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => ⟨(h c main_v13).trans (least_eq _), (h c main_v15).trans (row_eq _), (h c main_arg0).trans (arg0_eq _),
        (h c main_arg1).trans (arg1_eq _)⟩, sem_eq_zero_of_no_sems (by decide) r.2⟩)
    (run_seq scopedRefs_eq scopedSems_eq defs main (fun _ => ops) main_eq (fun _ => ops_sub) m ρ)

end Cert.ReferenceIdeal.RefRun

end
-- ==== Proof.Norm.lean ====
/- The one identity of real analysis the equation needs: a row scaled by the reciprocal square root of its sum of squares,
   the sum kept at or above `e²`, is the row divided by its norm, the norm kept at or above `e`. It holds at every extended
   real, so no precondition on the inputs is needed. Also: how `1 - x` orders extended reals. -/
module

public import Idealize.ShloMosaic.PureOps.Ideal

@[expose] public section

namespace Cert.Norm

open Idealize.ShloMosaic

/-- The square root at a real. -/
theorem sqrt_coe (r : ℝ) : Ideal.sqrt (r : EReal) = if r < 0 then ⊥ else ((Real.sqrt r : ℝ) : EReal) := rfl

/-- The reciprocal square root at a real. -/
theorem rsqrt_coe (r : ℝ) :
    Ideal.rsqrt (r : EReal) = if r < 0 then ⊥ else if r = 0 then ⊤ else (((Real.sqrt r)⁻¹ : ℝ) : EReal) := rfl

/-- `x · rsqrt (max s e²) = x / max e (sqrt s)` for every `x` and `s`, when `e` is a positive real. -/
theorem mul_rsqrt_eq_div (e : ℝ) (he : 0 < e) (x s : EReal) :
    x * Ideal.rsqrt (max s ((e ^ 2 : ℝ) : EReal)) = Ideal.div x (max (e : EReal) (Ideal.sqrt s)) := by
  have he2 : (0 : ℝ) < e ^ 2 := pow_pos he 2
  have hE : Ideal.rsqrt ((e ^ 2 : ℝ) : EReal) = ((e⁻¹ : ℝ) : EReal) := by
    rw [rsqrt_coe, if_neg (not_lt.2 he2.le), if_neg he2.ne', Real.sqrt_sq he.le]
  have hdiv : ∀ r : ℝ, 0 < r → Ideal.div x (r : EReal) = x * ((r⁻¹ : ℝ) : EReal) := by
    intro r hr
    rw [Ideal.div, if_neg (by exact_mod_cast hr.ne'), EReal.coe_inv]
  induction s with
  | bot =>
    have hs : Ideal.sqrt (⊥ : EReal) = ⊥ := rfl
    rw [hs, max_eq_right bot_le, max_eq_left bot_le, hE, hdiv e he]
  | top =>
    have hs : Ideal.sqrt (⊤ : EReal) = ⊤ := rfl
    have hr : Ideal.rsqrt (⊤ : EReal) = 0 := rfl
    rw [hs, max_eq_left le_top, max_eq_right le_top, hr, Ideal.div, if_neg EReal.top_ne_zero, EReal.inv_top]
  | coe r =>
    by_cases hneg : r < 0
    · have h1 : max (r : EReal) ((e ^ 2 : ℝ) : EReal) = ((e ^ 2 : ℝ) : EReal) :=
        max_eq_right (by exact_mod_cast (hneg.trans he2).le)
      rw [h1, hE, sqrt_coe, if_pos hneg, max_eq_left bot_le, hdiv e he]
    · have hr : 0 ≤ r := not_lt.1 hneg
      have hs : Ideal.sqrt (r : EReal) = ((Real.sqrt r : ℝ) : EReal) := by rw [sqrt_coe, if_neg hneg]
      rw [hs, ← EReal.coe_strictMono.monotone.map_max, ← EReal.coe_strictMono.monotone.map_max]
      have hpos : 0 < max r (e ^ 2) := lt_max_of_lt_right he2
      have hmax : Real.sqrt (max r (e ^ 2)) = max e (Real.sqrt r) := by
        have hm : Monotone Real.sqrt := fun _ _ h => Real.sqrt_le_sqrt h
        rw [hm.map_max, Real.sqrt_sq he.le, max_comm]
      rw [hdiv _ (lt_max_of_lt_left he)]
      rw [rsqrt_coe, if_neg (not_lt.2 hpos.le), if_neg hpos.ne', hmax]

/-- `1 - ·` reverses the strict order. -/
theorem one_sub_lt_one_sub (a b : EReal) : 1 - a < 1 - b ↔ b < a := by
  have h : ∀ a b : EReal, b < a → 1 - a < 1 - b := by
    intro a b hab
    rw [sub_eq_add_neg, sub_eq_add_neg]
    exact EReal.add_lt_add_left_coe (EReal.neg_lt_neg_iff.2 hab) 1
  constructor
  · intro hlt
    by_contra hn
    rcases (not_lt.1 hn).lt_or_eq with h' | h'
    · exact absurd (h _ _ h') (not_lt.2 hlt.le)
    · exact absurd hlt (by rw [h']; exact lt_irrefl _)
  · exact h a b

/-- `1 - ·` is injective. -/
theorem one_sub_inj (a b : EReal) : 1 - a = 1 - b ↔ a = b := by
  constructor
  · intro h
    rcases lt_trichotomy a b with h' | h' | h'
    · exact absurd ((one_sub_lt_one_sub b a).2 h') (by rw [h]; exact lt_irrefl _)
    · exact h'
    · exact absurd ((one_sub_lt_one_sub a b).2 h') (by rw [h]; exact lt_irrefl _)
  · exact fun h => by rw [h]

end Cert.Norm

end
-- ==== Proof.RefDist.lean ====
/- The reference's distances at an index, over the extended reals: one minus the dot product of the two rows, each
   normalised. The reference divides a row by its length, the kernel multiplies it by the reciprocal root of its squared
   length; the two give the same row. -/
module

public import proofs.«01_k».proof.Proof.RefRun
public import proofs.«01_k».proof.Proof.Dots
public import proofs.«01_k».proof.Proof.Norm
public import Idealize.ShloMosaic.Lib.IdealHost

@[expose] public section

noncomputable section

namespace Cert.ReferenceIdeal.RefDist

open Cert.ReferenceIdeal Cert.ReferenceIdeal.Gen Cert.ReferenceIdeal.RefRun Cert.KernelIdeal.Dots
open Idealize.ShloMosaic Idealize.SL.Sem Idealize.ShloMosaic.ValueIdx

/-- The reference's floor of a length. -/
theorem floor_word : Ideal.ofBits .f32 0x2B8CBCCC#32 = ((2305843 / 2 ^ 61 : ℝ) : EReal) := by
  simp [Ideal.ofBits, Ideal.ieee, -EReal.coe_mul]
  norm_num

/-- The kernel's floor of a squared length is its square. -/
theorem floor2_eq : floor2 = (((2305843 / 2 ^ 61 : ℝ) ^ 2 : ℝ) : EReal) :=
  congrArg _ (by norm_num)

/-- A row divided by its length, as the reference does it, is the row normalised as the kernel does it. -/
theorem div_eq_unit (v : Fin 768 → EReal) (k : Fin 768) :
    Ideal.div (v k) (max (Ideal.ofBits .f32 0x2B8CBCCC#32) (Ideal.sqrt (Ideal.ofBits .f32 0x00000000#32 + ∑ k', v k' * v k')))
      = unit v k := by
  rw [floor_word, Ideal.ofBits_zero_f32, zero_add]
  unfold unit
  rw [floor2_eq]
  exact (Cert.Norm.mul_rsqrt_eq_div _ (by norm_num) _ _).symm

theorem reduces_features : S8x1024x768.Reduces [2] S8x1024 := by decide
theorem reduces_protos : S4096x768.Reduces [1] S4096 := by decide

/-- Where the sum over a feature row takes its terms. -/
theorem lift_feature (b : Fin 8) (s : Fin 1024) (k : Fin 768) : reduces_features.lift (ix2 b s) k = ix3 b s k := by
  funext a
  match a with
  | ⟨0, _⟩ => rfl
  | ⟨1, _⟩ => rfl
  | ⟨2, _⟩ => rfl

/-- The normalised features at an index. -/
theorem unitFeatures_apply (x : FVec Ideal S8x1024x768 .f32) (b : Fin 8) (s : Fin 1024) (k : Fin 768) :
    unitFeatures x (ix3 b s k) = unit (fun k => x (ix3 b s k)) k := by
  unfold unitFeatures
  rw [hostDivf_apply, broadcastInDim_apply _ _ _ (ix3 b s k) (ix3 b s (0 : Fin 1)) (fun a => by
    match a with
    | ⟨0, _⟩ => rfl
    | ⟨1, _⟩ => rfl
    | ⟨2, _⟩ => rfl)]
  refine Eq.trans ?_ (div_eq_unit (fun k => x (ix3 b s k)) k)
  refine congrArg (Ideal.div (x (ix3 b s k))) (congrArg (max _) (congrArg Ideal.sqrt ?_))
  rw [broadcastInDim_apply _ _ _ (ix3 b s (0 : Fin 1)) (ix2 b s) (fun a => by
    match a with
    | ⟨0, _⟩ => rfl
    | ⟨1, _⟩ => rfl)]
  rw [hostReduceAdd_apply, Ideal.hostReduceAdd_single _ reduces_features]
  exact congrArg (_ + ·) (Finset.sum_congr rfl fun k' _ => congrArg (fun i => x i * x i) (lift_feature b s k'))

/-- The normalised prototypes at an index. -/
theorem unitProtos_apply (p : FVec Ideal S4096x768 .f32) (q : Fin 4096) (k : Fin 768) :
    unitProtos p (ix2 q k) = unit (fun k => p (ix2 q k)) k := by
  unfold unitProtos
  rw [hostDivf_apply, broadcastInDim_apply _ _ _ (ix2 q k) (ix2 q (0 : Fin 1)) (fun a => by
    match a with
    | ⟨0, _⟩ => rfl
    | ⟨1, _⟩ => rfl)]
  refine Eq.trans ?_ (div_eq_unit (fun k => p (ix2 q k)) k)
  refine congrArg (Ideal.div (p (ix2 q k))) (congrArg (max _) (congrArg Ideal.sqrt ?_))
  rw [broadcastInDim_apply _ _ _ (ix2 q (0 : Fin 1)) (ix1 q) (fun a => by
    match a with
    | ⟨0, _⟩ => rfl)]
  rw [hostReduceAdd_apply, Ideal.hostReduceAdd_single _ reduces_protos]
  exact congrArg (_ + ·) (Finset.sum_congr rfl fun k' _ => congrArg (fun i => p i * p i) (lift_row reduces_protos q k'))

/-- The reference's product at an index: the sum over the features' last axis and the transposed prototypes' first. -/
theorem dot_apply (l : FVec Ideal S8x1024x768 .f32) (r : FVec Ideal S768x4096 .f32) (b : Fin 8) (s : Fin 1024) (q : Fin 4096) :
    Host.dotGeneral dot_S8x1024x768_S768x4096_S8x1024x4096_2_0_01_1_n_n none l r (ix3 b s q)
      = ∑ k : Fin 768, l (ix3 b s k) * r (ix2 k q) := by
  show FloatOps.dotGeneral _ none _ l r (ix3 b s q) = _
  rw [Ideal.dotGeneral_apply,
    ← Equiv.sum_comp (contrEquiv1 dot_S8x1024x768_S768x4096_S8x1024x4096_2_0_01_1_n_n 768 rfl rfl).symm]
  refine Finset.sum_congr rfl fun k _ => ?_
  have hk := contrEquiv1_symm_val dot_S8x1024x768_S768x4096_S8x1024x4096_2_0_01_1_n_n 768 rfl rfl k
  have hl : dot_S8x1024x768_S768x4096_S8x1024x4096_2_0_01_1_n_n.lhsIdx (ix3 b s q) ((contrEquiv1 _ 768 rfl rfl).symm k)
      = ix3 b s k := by
    funext a; apply Fin.ext
    match a with
    | ⟨0, _⟩ => simp [DotDims.lhsIdx, dot_S8x1024x768_S768x4096_S8x1024x4096_2_0_01_1_n_n]; rfl
    | ⟨1, _⟩ => simp [DotDims.lhsIdx, dot_S8x1024x768_S768x4096_S8x1024x4096_2_0_01_1_n_n]; rfl
    | ⟨2, _⟩ => simp [DotDims.lhsIdx, dot_S8x1024x768_S768x4096_S8x1024x4096_2_0_01_1_n_n]; exact hk
  have hr : dot_S8x1024x768_S768x4096_S8x1024x4096_2_0_01_1_n_n.rhsIdx (ix3 b s q) ((contrEquiv1 _ 768 rfl rfl).symm k)
      = ix2 k q := by
    funext a; apply Fin.ext
    match a with
    | ⟨0, _⟩ => simp [DotDims.rhsIdx, dot_S8x1024x768_S768x4096_S8x1024x4096_2_0_01_1_n_n]; exact hk
    | ⟨1, _⟩ => simp [DotDims.rhsIdx, dot_S8x1024x768_S768x4096_S8x1024x4096_2_0_01_1_n_n]; rfl
  rw [hl, hr]

/-- The distances at an index. -/
theorem distances_apply (x : FVec Ideal S8x1024x768 .f32) (p : FVec Ideal S4096x768 .f32) (b : Fin 8) (s : Fin 1024) (q : Fin 4096) :
    distances x p (ix3 b s q)
      = 1 - ∑ k : Fin 768, unit (fun k => x (ix3 b s k)) k * unit (fun k => p (ix2 q k)) k := by
  unfold distances
  rw [subf_apply, dot_apply]
  refine congrArg₂ (· - ·) Ideal.ofBits_one_f32 (Finset.sum_congr rfl fun k _ => ?_)
  rw [unitFeatures_apply, transpose_ix2_apply, unitProtos_apply]

end Cert.ReferenceIdeal.RefDist

end
-- ==== Proof.RefBest.lean ====
/- The reference's two reductions of a column of distances: the least distance is one minus the score of the column's best
   row (`Best`), and the row number found with it is that row's number. -/
module

public import proofs.«01_k».proof.Proof.RefRun
public import proofs.«01_k».proof.Proof.Best
public import proofs.«01_k».proof.Proof.Norm
public import Idealize.ShloMosaic.Lib.IdealHost
public import Idealize.ShloMosaic.Lib.ValueIdx
public import Idealize.ShloMosaic.Lib.ValueLayout
public import Idealize.ShloMosaic.Lib.WordArith
public import Idealize.ShloMosaic.PureOps.Ideal.Laws

@[expose] public section

noncomputable section

namespace Cert.ReferenceIdeal.RefBest

open Cert.ReferenceIdeal Cert.ReferenceIdeal.Gen Cert.ReferenceIdeal.RefRun Cert.Best
open Idealize.ShloMosaic Idealize.SL.Sem Idealize.ShloMosaic.ValueIdx Idealize.ShloMosaic.WordArith

/-! ## The fold that finds a row -/

/-- A distance with its row's number. -/
abbrev Entry := EReal × BitVec 32

/-- `r` comes before `a`, or is equal to it: a smaller distance, or the same distance and a number at most `a`'s. -/
def Before (r a : Entry) : Prop := r.1 < a.1 ∨ (r.1 = a.1 ∧ r.2.toInt ≤ a.2.toInt)

theorem Before.refl (a : Entry) : Before a a := Or.inr ⟨rfl, le_rfl⟩

theorem Before.trans {a b c : Entry} (h : Before a b) (h' : Before b c) : Before a c := by
  rcases h with h | ⟨h, hi⟩
  · rcases h' with h' | ⟨h', -⟩
    · exact Or.inl (h.trans h')
    · exact Or.inl (h' ▸ h)
  · rcases h' with h' | ⟨h', hi'⟩
    · exact Or.inl (h ▸ h')
    · exact Or.inr ⟨h.trans h', hi.trans hi'⟩

/-- The reference's step on two entries, as a choice. -/
theorem step_eq (a b : Entry) :
    reducer_argmin_f32_i32 (F := Ideal) a b = if a.1 < b.1 ∨ (a.1 = b.1 ∧ a.2.toInt < b.2.toInt) then a else b := by
  obtain ⟨av, ai⟩ := a
  obtain ⟨bv, bi⟩ := b
  have hs : IntOp.cmpi .slt ai bi = BitVec.ofBool (decide (ai.toInt < bi.toInt)) := by
    show BitVec.ofBool (BitVec.slt _ _) = _
    rw [BitVec.slt_eq_decide]
  show ((Scalar.select (IntOp.ori (BitVec.ofBool (decide (av < bv))) (BitVec.ofBool (decide (av ≠ av)))) av bv : EReal),
    (Scalar.select (IntOp.ori (IntOp.ori (BitVec.ofBool (decide (av < bv))) (BitVec.ofBool (decide (av ≠ av))))
      (IntOp.andi (BitVec.ofBool (decide (av = bv))) (IntOp.cmpi .slt ai bi))) ai bi : BitVec 32)) = _
  rw [hs]
  by_cases h1 : av < bv
  · simp [h1, h1.ne, Scalar.select, IntOp.ori, IntOp.andi]
  · by_cases h2 : av = bv
    · subst h2
      by_cases h3 : ai.toInt < bi.toInt <;> simp [h3, Scalar.select, IntOp.ori, IntOp.andi]
    · simp [h1, h2, Scalar.select, IntOp.ori, IntOp.andi]

/-- The step keeps one of the two entries, one that comes before both. -/
theorem step_spec (a b : Entry) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  rw [step_eq]
  split
  · next h => exact ⟨Or.inl rfl, Before.refl a, h.imp id (fun h => ⟨h.1, h.2.le⟩)⟩
  · next h =>
    rw [not_or, not_lt, not_and, not_lt] at h
    exact ⟨Or.inr rfl, h.1.lt_or_eq.imp id (fun e => ⟨e, h.2 e.symm⟩), Before.refl b⟩

/-- The fold keeps one of the entries, one that comes before all of them. -/
theorem fold_spec (L : List Entry) (p : Entry) :
    (L.foldl (reducer_argmin_f32_i32 (F := Ideal)) p = p ∨ L.foldl (reducer_argmin_f32_i32 (F := Ideal)) p ∈ L)
      ∧ Before (L.foldl (reducer_argmin_f32_i32 (F := Ideal)) p) p
      ∧ ∀ a ∈ L, Before (L.foldl (reducer_argmin_f32_i32 (F := Ideal)) p) a := by
  induction L generalizing p with
  | nil => exact ⟨Or.inl rfl, Before.refl p, fun a ha => absurd ha (List.not_mem_nil)⟩
  | cons a L ih =>
    obtain ⟨hm, hb, hall⟩ := ih (reducer_argmin_f32_i32 (F := Ideal) p a)
    obtain ⟨hs, hp, ha⟩ := step_spec p a
    rw [List.foldl_cons]
    refine ⟨?_, hb.trans hp, fun c hc => ?_⟩
    · rcases hm with hm | hm
      · rcases hs with hs | hs
        · exact Or.inl (hm.trans hs)
        · exact Or.inr (List.mem_cons.2 (Or.inl (hm.trans hs)))
      · exact Or.inr (List.mem_cons_of_mem _ hm)
    · rcases List.mem_cons.1 hc with rfl | hc
      · exact hb.trans ha
      · exact hall c hc

/-! ## The two reductions -/

section Column

variable (d : FVec Ideal S8x1024x4096 .f32) (b : Fin 8) (q : Fin 4096) (D : ℕ → EReal)
  (hD : ∀ s : Fin 1024, d (ix3 b s q) = 1 - D s.val)

theorem reduces_rows : S8x1024x4096.Reduces [1] S8x4096 := by decide

/-- Where the reductions take a column's entries. -/
theorem lift_column (s : Fin 1024) : reduces_rows.lift (ix2 b q) s = ix3 b s q := by
  funext a
  match a with
  | ⟨0, _⟩ => rfl
  | ⟨1, _⟩ => rfl
  | ⟨2, _⟩ => rfl

theorem top_word : Ideal.ofBits .f32 0x7F800000#32 = ⊤ := by
  simp [Ideal.ofBits, Ideal.ieee]

/-- A reduced array laid out as a result. -/
theorem result_apply {α : Type} (v : S8x4096.Idx → α) :
    broadcastInDim S8x1x4096 ![0, 2] bcast_S8x4096_S8x1x4096_0_2 v (ix3 b (0 : Fin 1) q) = v (ix2 b q) :=
  broadcastInDim_apply _ _ _ (ix3 b (0 : Fin 1) q) (ix2 b q) (fun a => by
    match a with
    | ⟨0, _⟩ => rfl
    | ⟨1, _⟩ => rfl)

include hD

/-- The first result. -/
theorem least_apply (s : ℕ) (hs : Best D (fun s => s < 1024) s) : leastOf d (ix3 b (0 : Fin 1) q) = 1 - D s := by
  unfold leastOf
  rw [result_apply, Host.reduce_eq_fold_single _ _ _ _ reduces_rows]
  show (Finset.univ : Finset (Fin 1024)).fold min (Ideal.ofBits .f32 0x7F800000#32) (d ∘ reduces_rows.lift (ix2 b q)) = _
  have hval : ∀ s : Fin 1024, (d ∘ reduces_rows.lift (ix2 b q)) s = 1 - D s.val := fun s =>
    (congrArg d (lift_column b q s)).trans (hD s)
  refine le_antisymm ?_ ?_
  · exact Finset.fold_min_le _ |>.2 (Or.inr ⟨⟨s, hs.1⟩, Finset.mem_univ _, (hval _).le⟩)
  · refine Finset.le_fold_min _ |>.2 ⟨by rw [top_word]; exact le_top, fun t _ => ?_⟩
    refine le_of_le_of_eq ?_ (hval t).symm
    rcases hs.2 t.val t.isLt with h | ⟨h, -⟩
    · exact ((Cert.Norm.one_sub_lt_one_sub _ _).2 h).le
    · exact (congrArg (1 - ·) h.symm).le

/-- A column's entries. -/
theorem mem_column (a : Entry) :
    a ∈ Host.argReduceFiber d (iotaInDim S8x1024x4096 32 1) reducesTo_S8x1024x4096_S8x4096_d1 (ix2 b q)
      ↔ ∃ s : Fin 1024, a = (1 - D s.val, BitVec.ofNat 32 s.val) := by
  unfold Host.argReduceFiber
  simp only [List.mem_map, List.mem_filter, List.mem_finRange, true_and, decide_eq_true_eq]
  constructor
  · rintro ⟨n, hn, rfl⟩
    generalize S8x1024x4096.rowMajor.symm n = i at hn ⊢
    rw [Shape.ReducesTo.drop_eq_drop _ reduces_rows] at hn
    have hi : i = ix3 b (i 1) q :=
      (reduces_rows.lift_drop i).symm.trans
        ((congrArg (fun j => reduces_rows.lift j (i 1)) hn).trans (lift_column b q (i 1)))
    refine ⟨i 1, Prod.ext ?_ rfl⟩
    exact (congrArg d hi).trans (hD _)
  · rintro ⟨s, rfl⟩
    refine ⟨S8x1024x4096.rowMajor (ix3 b s q), ?_, ?_⟩
    · rw [Equiv.symm_apply_apply, Shape.ReducesTo.drop_eq_drop _ reduces_rows, ← lift_column b q s]
      exact reduces_rows.drop_lift _ _
    · rw [Equiv.symm_apply_apply, hD]
      rfl

/-- The second result. -/
theorem row_apply (s : ℕ) (hs : Best D (fun s => s < 1024) s) : rowOf d (ix3 b (0 : Fin 1) q) = BitVec.ofNat 32 s := by
  unfold rowOf
  rw [result_apply, Ideal.argReduce_eq_reduce2, Host.reduce2_eq_foldl_fiber]
  have hmem := mem_column d b q D hD
  generalize Host.argReduceFiber d (iotaInDim S8x1024x4096 32 1) reducesTo_S8x1024x4096_S8x4096_d1 (ix2 b q) = L at hmem ⊢
  show (L.foldl (reducer_argmin_f32_i32 (F := Ideal)) (Ideal.ofBits .f32 0x7F800000#32, 0#32)).2 = _
  rw [top_word]
  obtain ⟨hm, -, hall⟩ := fold_spec L (⊤, 0#32)
  generalize L.foldl (reducer_argmin_f32_i32 (F := Ideal)) (⊤, 0#32) = r at hm hall ⊢
  have hint : ∀ t : ℕ, t < 1024 → (BitVec.ofNat 32 t).toInt = t := fun t ht => toInt_ofNat_small t (by omega)
  have hr : ∃ t : ℕ, t < 1024 ∧ r = (1 - D t, BitVec.ofNat 32 t) := by
    rcases hm with hm | hm
    · refine ⟨0, by omega, hm.trans (Prod.ext ?_ rfl)⟩
      have h0 := hall _ ((hmem _).2 ⟨(0 : Fin 1024), rfl⟩)
      rw [hm] at h0
      rcases h0 with h0 | ⟨h0, -⟩
      · exact absurd h0 not_top_lt
      · exact h0
    · obtain ⟨t, ht⟩ := (hmem _).1 hm
      exact ⟨t.val, t.isLt, ht⟩
  obtain ⟨t, ht, rfl⟩ := hr
  have hbest : Best D (fun s => s < 1024) t := by
    refine ⟨ht, fun s' hs' => ?_⟩
    rcases hall _ ((hmem _).2 ⟨⟨s', hs'⟩, rfl⟩) with h | ⟨h, hi⟩
    · exact Or.inl ((Cert.Norm.one_sub_lt_one_sub _ _).1 h)
    · refine Or.inr ⟨((Cert.Norm.one_sub_inj _ _).1 h).symm, ?_⟩
      dsimp only at hi
      rw [hint t ht, hint s' hs'] at hi
      exact_mod_cast hi
  rw [hbest.unique hs]

end Column

end Cert.ReferenceIdeal.RefBest

end
-- ==== Proof.Equation.lean ====
/- The kernel's two results are the reference's: at batch `b` and prototype `q` both come from the best row of the batch for
   that prototype, and there is only one such row. -/
module

public import proofs.«01_k».proof.Proof.Grid
public import proofs.«01_k».proof.Proof.KernelValue
public import proofs.«01_k».proof.Proof.RefDist
public import proofs.«01_k».proof.Proof.RefBest

@[expose] public section

noncomputable section

namespace Cert.Equation

open Idealize.ShloMosaic Idealize.ShloMosaic.TcCoe Idealize.SL.Sem Idealize.ShloMosaic.ValueIdx
open Cert.KernelIdeal Cert.KernelIdeal.Gen Cert.KernelIdeal.Grid Cert.KernelIdeal.Dots Cert.Best
open Cert.ReferenceIdeal.RefRun (distances leastOf rowOf)

variable (m : (ℓ : Loc nD τ sig) → Buf (Elt Ideal) ℓ) (c : Dev nD)

/-- The patches. -/
def patches : Vec Ideal S8x1024x768 .f32 := m ((c : Thread nD τ).loc main_arg0)

/-- The reference's distances are one minus the kernel's dot products. -/
theorem distances_eq (b : Fin 8) (q : Fin 4096) (s : Fin 1024) :
    distances (patches m c) (protos m c) (ix3 b s q) = 1 - rowDot (batch m c b) (k0_pay3 (protos m c)) q s.val := by
  rw [Cert.ReferenceIdeal.RefDist.distances_apply]
  unfold rowDot
  have hs : batchRow s.val = s := Fin.ext (Nat.mod_eq_of_lt s.isLt)
  rw [hs]
  exact congrArg (1 - ·) (Finset.sum_congr rfl fun k _ => congrArg (_ * ·) (pay3_apply (protos m c) q k).symm)

/-- Both results at batch `b`, prototype `q`. -/
theorem results_apply (b : Fin 8) (q : Fin 4096) :
    (dats m 0 c).arrAt 2 cfg0.N (ix3 b (0 : Fin 1) q) = leastOf (distances (patches m c) (protos m c)) (ix3 b (0 : Fin 1) q)
      ∧ (dats m 0 c).arrAt 3 cfg0.N (ix3 b (0 : Fin 1) q) = rowOf (distances (patches m c) (protos m c)) (ix3 b (0 : Fin 1) q) := by
  obtain ⟨s, hs, hv, hw⟩ := KernelValue.block_apply (batch m c b) (k0_pay3 (protos m c)) q
  have hD := distances_eq m c b q
  exact ⟨(dist_apply m c b q).trans (hv.trans (Cert.ReferenceIdeal.RefBest.least_apply _ b q _ hD s hs).symm),
    (row_apply m c b q).trans (hw.trans (Cert.ReferenceIdeal.RefBest.row_apply _ b q _ hD s hs).symm)⟩

/-- A result's index is a batch and a prototype. -/
theorem index_eq (i : S8x1x4096.Idx) : ∃ (b : Fin 8) (q : Fin 4096), i = ix3 b (0 : Fin 1) q := by
  have h1 : (i 1).val < 1 := (i 1).isLt
  refine ⟨i 0, i 2, funext fun a => Fin.ext ?_⟩
  match a with
  | ⟨0, _⟩ => rfl
  | ⟨1, _⟩ => show (i 1).val = 0; omega
  | ⟨2, _⟩ => rfl

/-- The first result. -/
theorem dist_eq : (dats m 0 c).arrAt 2 cfg0.N = leastOf (distances (patches m c) (protos m c)) := by
  funext i
  obtain ⟨b, q, rfl⟩ := index_eq i
  exact (results_apply m c b q).1

/-- The second result. -/
theorem row_eq : (dats m 0 c).arrAt 3 cfg0.N = rowOf (distances (patches m c) (protos m c)) := by
  funext i
  obtain ⟨b, q, rfl⟩ := index_eq i
  exact (results_apply m c b q).2

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel runs, keeps its arguments and ends with every semaphore at zero. -/
theorem frame_kernel : Cert.quiescent_Kernel := fun m ρ _ => Cert.Kernel.Gen.frame m ρ

/-- So does its idealization. -/
theorem frame_kernelIdeal : Cert.quiescent_KernelIdeal := fun m ρ _ => Cert.KernelIdeal.Gen.frame m ρ

/-- So does the reference. -/
theorem frame_reference : Cert.quiescent_ReferenceIdeal := fun m ρ _ =>
  (θ_run Cert.ReferenceIdeal.defs _ _).mono (fun _ h => ⟨fun c => (h.1 c).2.2, h.2⟩) (Cert.ReferenceIdeal.RefRun.run m ρ)

/-- The idealization names one constant. -/
theorem preserves : Cert.preserves_Kernel_KernelIdeal :=
  IdealRules.named_const.statement Cert.KernelIdeal.κ "eps2" .f32 0x179ABE15#32
    ((5316911940649 / 5316911983139663491615228241121378304 : ℝ) : EReal) rfl

/-- From the same arguments the kernel and the reference end with the same two results. -/
theorem algebraic : Cert.algebraic_KernelIdeal_ReferenceIdeal := by
  intro m g m' g' _ hargs
  refine ⟨fun c => (Cert.KernelIdeal.Gen.dats m 0 c).arrAt 2 Cert.KernelIdeal.cfg0.N,
    fun c => (Cert.KernelIdeal.Gen.dats m 0 c).arrAt 3 Cert.KernelIdeal.cfg0.N, Cert.KernelIdeal.Value.run_blocks m g, ?_⟩
  refine (θ_run Cert.ReferenceIdeal.defs _ _).mono (fun r h c => ?_) (Cert.ReferenceIdeal.RefRun.run m' g')
  obtain ⟨h0, h1, hk0, hk1⟩ := h.1 c
  rw [(hargs c).1, (hargs c).2] at h0 h1
  exact ⟨h0.trans (Cert.Equation.dist_eq m c).symm, h1.trans (Cert.Equation.row_eq m c).symm, hk0, hk1⟩

theorem claim : Cert.Claim := ⟨Cert.Kernel.Gen.facts, Cert.KernelIdeal.Gen.facts, Cert.ReferenceIdeal.Gen.facts,
  frame_kernel, frame_kernelIdeal, frame_reference, preserves, algebraic⟩

end Cert.Proof

end
